-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_offsets [hPre_offsets : Cert.Pre_offsets.Facts] (m : (ℓ : Loc Cert.KernelIdeal.nD Cert.KernelIdeal.τ Cert.KernelIdeal.sig) → Buf (Elt Ideal) ℓ) : Prop :=
  ∀ c : Dev Cert.KernelIdeal.nD,
    (Cert.Pre_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets [hPre_offsets : Cert.Pre_offsets.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_offsets [hKernelIdeal : Cert.KernelIdeal.Facts] [hPre_offsets : Cert.Pre_offsets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_offsets m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_offsets [hReferenceIdeal : Cert.ReferenceIdeal.Facts] [hPre_offsets : Cert.Pre_offsets.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_offsets [hKernelIdeal : Cert.KernelIdeal.Facts] [hReferenceIdeal : Cert.ReferenceIdeal.Facts] [hPre_offsets : Cert.Pre_offsets.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_offsets m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_offsets : Cert.Pre_offsets.Facts),
    quiescent_Kernel (hKernel := hKernel)
    ∧ quiescent_KernelIdeal (hKernelIdeal := hKernelIdeal)
    ∧ quiescent_KernelIdeal_pre_offsets (hKernelIdeal := hKernelIdeal) (hPre_offsets := hPre_offsets)
    ∧ quiescent_ReferenceIdeal (hReferenceIdeal := hReferenceIdeal)
    ∧ quiescent_ReferenceIdeal_pre_offsets (hReferenceIdeal := hReferenceIdeal) (hPre_offsets := hPre_offsets)
    ∧ preserves_Kernel_KernelIdeal
    ∧ algebraic_KernelIdeal_ReferenceIdeal_pre_offsets (hKernelIdeal := hKernelIdeal) (hReferenceIdeal := hReferenceIdeal) (hPre_offsets := hPre_offsets)
-- ==== Pre_offsets.lean ====
abbrev S16384 : Shape := ⟨1, ![16384]⟩
abbrev S17 : Shape := ⟨1, ![17]⟩
abbrev S21x3 : Shape := ⟨2, ![21, 3]⟩
abbrev S3 : Shape := ⟨1, ![3]⟩
abbrev S_ : Shape := ⟨0, ![]⟩

class Facts : Prop where
  bcast_S_S17 : S_.BroadcastsInDim S17 (![] : Fin 0 → Fin S17.rank)
  reducesTo_S17_S_d0 : S17.ReducesTo [0] S_
  h_S_ : 0 < S_.numel

variable [Facts]

def fn {F : FTy → Type} [FloatOps F] (main_arg0 : IVec S16384 32) (main_arg1 : IVec S17 32) (main_arg2 : FVec F S21x3 .f32) (main_arg3 : FVec F S3 .f32) : IVec S_ 1 :=
  let main_c : IVec S_ 32 := constantI S_ 32 0#32
  let main_v0 : IVec S17 32 := broadcastInDim S17 ![] bcast_S_S17 main_c
  let main_v1 : IVec S17 1 := cmpi .sge main_arg1 main_v0
  let main_c_0 : IVec S_ 1 := constantI S_ 1 1#1
  let main_v2 : IVec S_ 1 := (fun x v => Host.reduce IntOp.andi x v reducesTo_S17_S_d0 h_S_) main_v1 main_c_0
  let main_c_1 : IVec S_ 32 := constantI S_ 32 16384#32
  let main_v3 : IVec S17 32 := broadcastInDim S17 ![] bcast_S_S17 main_c_1
  let main_v4 : IVec S17 1 := cmpi .sle main_arg1 main_v3
  let main_c_2 : IVec S_ 1 := constantI S_ 1 1#1
  let main_v5 : IVec S_ 1 := (fun x v => Host.reduce IntOp.andi x v reducesTo_S17_S_d0 h_S_) main_v4 main_c_2
  let main_v6 : IVec S_ 1 := andi main_v2 main_v5
  main_v6
-- ==== Kernel.lean ====
abbrev S16384 : Shape := ⟨1, ![16384]⟩
abbrev S17 : Shape := ⟨1, ![17]⟩
abbrev S21x3 : Shape := ⟨2, ![21, 3]⟩
abbrev S3 : Shape := ⟨1, ![3]⟩
abbrev S1x16384 : Shape := ⟨2, ![1, 16384]⟩
abbrev S1x3 : Shape := ⟨2, ![1, 3]⟩
abbrev S1984x48 : Shape := ⟨2, ![1984, 48]⟩
abbrev S1984x144 : Shape := ⟨2, ![1984, 144]⟩
abbrev S1x16 : Shape := ⟨2, ![1, 16]⟩
abbrev S48x3x16x124 : Shape := ⟨4, ![48, 3, 16, 124]⟩
abbrev S1 : Shape := ⟨1, ![1]⟩
abbrev S1x1 : Shape := ⟨2, ![1, 1]⟩
abbrev S1x2176 : Shape := ⟨2, ![1, 2176]⟩
abbrev S1x1984 : Shape := ⟨2, ![1, 1984]⟩
abbrev S16x1984 : Shape := ⟨2, ![16, 1984]⟩
abbrev S16x124x16 : Shape := ⟨3, ![16, 124, 16]⟩
abbrev S16x16x124 : Shape := ⟨3, ![16, 16, 124]⟩
abbrev S16x1x16x124 : Shape := ⟨4, ![16, 1, 16, 124]⟩
abbrev S16x3x16x124 : Shape := ⟨4, ![16, 3, 16, 124]⟩
abbrev S16x3x124x16 : Shape := ⟨4, ![16, 3, 124, 16]⟩
abbrev S48x1984 : Shape := ⟨2, ![48, 1984]⟩
abbrev S16x124 : Shape := ⟨2, ![16, 124]⟩
abbrev S1x16x124 : Shape := ⟨3, ![1, 16, 124]⟩
abbrev S1x1x16x124 : Shape := ⟨4, ![1, 1, 16, 124]⟩
abbrev S16x1 : Shape := ⟨2, ![16, 1]⟩
abbrev S16x123 : Shape := ⟨2, ![16, 123]⟩
abbrev S16x2 : Shape := ⟨2, ![16, 2]⟩
abbrev S16x122 : Shape := ⟨2, ![16, 122]⟩
abbrev S16x4 : Shape := ⟨2, ![16, 4]⟩
abbrev S16x120 : Shape := ⟨2, ![16, 120]⟩
abbrev S16x8 : Shape := ⟨2, ![16, 8]⟩
abbrev S16x116 : Shape := ⟨2, ![16, 116]⟩
abbrev S16x16 : Shape := ⟨2, ![16, 16]⟩
abbrev S16x108 : Shape := ⟨2, ![16, 108]⟩
abbrev S16x32 : Shape := ⟨2, ![16, 32]⟩
abbrev S16x92 : Shape := ⟨2, ![16, 92]⟩
abbrev S16x64 : Shape := ⟨2, ![16, 64]⟩
abbrev S16x60 : Shape := ⟨2, ![16, 60]⟩
abbrev S48x1x16x124 : Shape := ⟨4, ![48, 1, 16, 124]⟩
abbrev S48x16x124 : Shape := ⟨3, ![48, 16, 124]⟩
abbrev S16x3x3x16x124 : Shape := ⟨5, ![16, 3, 3, 16, 124]⟩
abbrev S16x3x3x124x16 : Shape := ⟨5, ![16, 3, 3, 124, 16]⟩
abbrev S144x1984 : Shape := ⟨2, ![144, 1984]⟩

abbrev nBuf : Space → Nat
  | .hbm => 11
  | .vmem => 4
  | .smem => 4
  | _ => 0

abbrev bufTy : (tb : Table) → Fin (tcTables nBuf tb) → BufTy
  | .hbm, ⟨0, _⟩ => ⟨S16384, .i32⟩
  | .hbm, ⟨1, _⟩ => ⟨S17, .i32⟩
  | .hbm, ⟨2, _⟩ => ⟨S21x3, .f32⟩
  | .hbm, ⟨3, _⟩ => ⟨S3, .f32⟩
  | .hbm, ⟨4, _⟩ => ⟨S1x16384, .i32⟩
  | .hbm, ⟨5, _⟩ => ⟨S21x3, .bf16⟩
  | .hbm, ⟨6, _⟩ => ⟨S21x3, .f32⟩
  | .hbm, ⟨7, _⟩ => ⟨S1x3, .f32⟩
  | .hbm, ⟨8, _⟩ => ⟨S1984x48, .f32⟩
  | .hbm, ⟨9, _⟩ => ⟨S1984x144, .f32⟩
  | .hbm, ⟨10, _⟩ => ⟨S1x16, .i32⟩
  | .local _ .vmem, ⟨0, _⟩ => ⟨S1x16384, .i32⟩
  | .local _ .vmem, ⟨1, _⟩ => ⟨S1984x48, .f32⟩
  | .local _ .vmem, ⟨2, _⟩ => ⟨S1984x144, .f32⟩
  | .local _ .vmem, ⟨3, _⟩ => ⟨S48x3x16x124, .f32⟩
  | .local _ .smem, ⟨0, _⟩ => ⟨S17, .i32⟩
  | .local _ .smem, ⟨1, _⟩ => ⟨S21x3, .f32⟩
  | .local _ .smem, ⟨2, _⟩ => ⟨S1x3, .f32⟩
  | .local _ .smem, ⟨3, _⟩ => ⟨S1x16, .i32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg6_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_off1 (v0 : BitVec 32) : Fin 2 → Nat :=
  let c0_3 : Index := 0#32
  let c14208_i32 : BitVec 32 := 14208#32
  let v4 : BitVec 32 := Scalar.minsi v0 c14208_i32
  let c0_i32 : BitVec 32 := 0#32
  let v5 : BitVec 32 := Scalar.maxsi v4 c0_i32
  let c128_i32 : BitVec 32 := 128#32
  let v6 : BitVec 32 := Scalar.divsi v5 c128_i32
  let c128_i32_2 : BitVec 32 := 128#32
  let v7 : BitVec 32 := Scalar.muli v6 c128_i32_2
  let v9 : Index := Scalar.indexCast v7
  ![0, v9.toNat]

def k0_chk1 (v0 : BitVec 32) : Prop :=
  (∀ a, (k0_off1 v0) a + S1x2176.size a ≤ S1x16384.size a)
theorem k0_off1_inb : ∀ (v0 : BitVec 32) (k0_hw1 : k0_chk1 v0), ∀ a, (k0_off1 v0) a + S1x2176.size a ≤ S1x16384.size a := fun v0 k0_hw1 => k0_hw1

def k0_off2 (v21 : BitVec 32) : Fin 2 → Nat :=
  let c0_13 : Index := 0#32
  let c14208_i32_9 : BitVec 32 := 14208#32
  let v25 : BitVec 32 := Scalar.minsi v21 c14208_i32_9
  let c0_i32_10 : BitVec 32 := 0#32
  let v26 : BitVec 32 := Scalar.maxsi v25 c0_i32_10
  let c128_i32_11 : BitVec 32 := 128#32
  let v27 : BitVec 32 := Scalar.divsi v26 c128_i32_11
  let c128_i32_12 : BitVec 32 := 128#32
  let v28 : BitVec 32 := Scalar.muli v27 c128_i32_12
  let v30 : Index := Scalar.indexCast v28
  ![0, v30.toNat]

def k0_chk2 (v21 : BitVec 32) : Prop :=
  (∀ a, (k0_off2 v21) a + S1x2176.size a ≤ S1x16384.size a)
theorem k0_off2_inb : ∀ (v21 : BitVec 32) (k0_hw2 : k0_chk2 v21), ∀ a, (k0_off2 v21) a + S1x2176.size a ≤ S1x16384.size a := fun v21 k0_hw2 => k0_hw2

def k0_off3 (v42 : BitVec 32) : Fin 2 → Nat :=
  let c0_24 : Index := 0#32
  let c14208_i32_20 : BitVec 32 := 14208#32
  let v46 : BitVec 32 := Scalar.minsi v42 c14208_i32_20
  let c0_i32_21 : BitVec 32 := 0#32
  let v47 : BitVec 32 := Scalar.maxsi v46 c0_i32_21
  let c128_i32_22 : BitVec 32 := 128#32
  let v48 : BitVec 32 := Scalar.divsi v47 c128_i32_22
  let c128_i32_23 : BitVec 32 := 128#32
  let v49 : BitVec 32 := Scalar.muli v48 c128_i32_23
  let v51 : Index := Scalar.indexCast v49
  ![0, v51.toNat]

def k0_chk3 (v42 : BitVec 32) : Prop :=
  (∀ a, (k0_off3 v42) a + S1x2176.size a ≤ S1x16384.size a)
theorem k0_off3_inb : ∀ (v42 : BitVec 32) (k0_hw3 : k0_chk3 v42), ∀ a, (k0_off3 v42) a + S1x2176.size a ≤ S1x16384.size a := fun v42 k0_hw3 => k0_hw3

def k0_off4 (v63 : BitVec 32) : Fin 2 → Nat :=
  let c0_35 : Index := 0#32
  let c14208_i32_31 : BitVec 32 := 14208#32
  let v67 : BitVec 32 := Scalar.minsi v63 c14208_i32_31
  let c0_i32_32 : BitVec 32 := 0#32
  let v68 : BitVec 32 := Scalar.maxsi v67 c0_i32_32
  let c128_i32_33 : BitVec 32 := 128#32
  let v69 : BitVec 32 := Scalar.divsi v68 c128_i32_33
  let c128_i32_34 : BitVec 32 := 128#32
  let v70 : BitVec 32 := Scalar.muli v69 c128_i32_34
  let v72 : Index := Scalar.indexCast v70
  ![0, v72.toNat]

def k0_chk4 (v63 : BitVec 32) : Prop :=
  (∀ a, (k0_off4 v63) a + S1x2176.size a ≤ S1x16384.size a)
theorem k0_off4_inb : ∀ (v63 : BitVec 32) (k0_hw4 : k0_chk4 v63), ∀ a, (k0_off4 v63) a + S1x2176.size a ≤ S1x16384.size a := fun v63 k0_hw4 => k0_hw4

def k0_off5 (v84 : BitVec 32) : Fin 2 → Nat :=
  let c0_46 : Index := 0#32
  let c14208_i32_42 : BitVec 32 := 14208#32
  let v88 : BitVec 32 := Scalar.minsi v84 c14208_i32_42
  let c0_i32_43 : BitVec 32 := 0#32
  let v89 : BitVec 32 := Scalar.maxsi v88 c0_i32_43
  let c128_i32_44 : BitVec 32 := 128#32
  let v90 : BitVec 32 := Scalar.divsi v89 c128_i32_44
  let c128_i32_45 : BitVec 32 := 128#32
  let v91 : BitVec 32 := Scalar.muli v90 c128_i32_45
  let v93 : Index := Scalar.indexCast v91
  ![0, v93.toNat]

def k0_chk5 (v84 : BitVec 32) : Prop :=
  (∀ a, (k0_off5 v84) a + S1x2176.size a ≤ S1x16384.size a)
theorem k0_off5_inb : ∀ (v84 : BitVec 32) (k0_hw5 : k0_chk5 v84), ∀ a, (k0_off5 v84) a + S1x2176.size a ≤ S1x16384.size a := fun v84 k0_hw5 => k0_hw5

def k0_off6 (v105 : BitVec 32) : Fin 2 → Nat :=
  let c0_57 : Index := 0#32
  let c14208_i32_53 : BitVec 32 := 14208#32
  let v109 : BitVec 32 := Scalar.minsi v105 c14208_i32_53
  let c0_i32_54 : BitVec 32 := 0#32
  let v110 : BitVec 32 := Scalar.maxsi v109 c0_i32_54
  let c128_i32_55 : BitVec 32 := 128#32
  let v111 : BitVec 32 := Scalar.divsi v110 c128_i32_55
  let c128_i32_56 : BitVec 32 := 128#32
  let v112 : BitVec 32 := Scalar.muli v111 c128_i32_56
  let v114 : Index := Scalar.indexCast v112
  ![0, v114.toNat]

def k0_chk6 (v105 : BitVec 32) : Prop :=
  (∀ a, (k0_off6 v105) a + S1x2176.size a ≤ S1x16384.size a)
theorem k0_off6_inb : ∀ (v105 : BitVec 32) (k0_hw6 : k0_chk6 v105), ∀ a, (k0_off6 v105) a + S1x2176.size a ≤ S1x16384.size a := fun v105 k0_hw6 => k0_hw6

def k0_off7 (v126 : BitVec 32) : Fin 2 → Nat :=
  let c0_68 : Index := 0#32
  let c14208_i32_64 : BitVec 32 := 14208#32
  let v130 : BitVec 32 := Scalar.minsi v126 c14208_i32_64
  let c0_i32_65 : BitVec 32 := 0#32
  let v131 : BitVec 32 := Scalar.maxsi v130 c0_i32_65
  let c128_i32_66 : BitVec 32 := 128#32
  let v132 : BitVec 32 := Scalar.divsi v131 c128_i32_66
  let c128_i32_67 : BitVec 32 := 128#32
  let v133 : BitVec 32 := Scalar.muli v132 c128_i32_67
  let v135 : Index := Scalar.indexCast v133
  ![0, v135.toNat]

def k0_chk7 (v126 : BitVec 32) : Prop :=
  (∀ a, (k0_off7 v126) a + S1x2176.size a ≤ S1x16384.size a)
theorem k0_off7_inb : ∀ (v126 : BitVec 32) (k0_hw7 : k0_chk7 v126), ∀ a, (k0_off7 v126) a + S1x2176.size a ≤ S1x16384.size a := fun v126 k0_hw7 => k0_hw7

def k0_off8 (v147 : BitVec 32) : Fin 2 → Nat :=
  let c0_79 : Index := 0#32
  let c14208_i32_75 : BitVec 32 := 14208#32
  let v151 : BitVec 32 := Scalar.minsi v147 c14208_i32_75
  let c0_i32_76 : BitVec 32 := 0#32
  let v152 : BitVec 32 := Scalar.maxsi v151 c0_i32_76
  let c128_i32_77 : BitVec 32 := 128#32
  let v153 : BitVec 32 := Scalar.divsi v152 c128_i32_77
  let c128_i32_78 : BitVec 32 := 128#32
  let v154 : BitVec 32 := Scalar.muli v153 c128_i32_78
  let v156 : Index := Scalar.indexCast v154
  ![0, v156.toNat]

def k0_chk8 (v147 : BitVec 32) : Prop :=
  (∀ a, (k0_off8 v147) a + S1x2176.size a ≤ S1x16384.size a)
theorem k0_off8_inb : ∀ (v147 : BitVec 32) (k0_hw8 : k0_chk8 v147), ∀ a, (k0_off8 v147) a + S1x2176.size a ≤ S1x16384.size a := fun v147 k0_hw8 => k0_hw8

def k0_off9 (v168 : BitVec 32) : Fin 2 → Nat :=
  let c0_90 : Index := 0#32
  let c14208_i32_86 : BitVec 32 := 14208#32
  let v172 : BitVec 32 := Scalar.minsi v168 c14208_i32_86
  let c0_i32_87 : BitVec 32 := 0#32
  let v173 : BitVec 32 := Scalar.maxsi v172 c0_i32_87
  let c128_i32_88 : BitVec 32 := 128#32
  let v174 : BitVec 32 := Scalar.divsi v173 c128_i32_88
  let c128_i32_89 : BitVec 32 := 128#32
  let v175 : BitVec 32 := Scalar.muli v174 c128_i32_89
  let v177 : Index := Scalar.indexCast v175
  ![0, v177.toNat]

def k0_chk9 (v168 : BitVec 32) : Prop :=
  (∀ a, (k0_off9 v168) a + S1x2176.size a ≤ S1x16384.size a)
theorem k0_off9_inb : ∀ (v168 : BitVec 32) (k0_hw9 : k0_chk9 v168), ∀ a, (k0_off9 v168) a + S1x2176.size a ≤ S1x16384.size a := fun v168 k0_hw9 => k0_hw9

def k0_off10 (v189 : BitVec 32) : Fin 2 → Nat :=
  let c0_101 : Index := 0#32
  let c14208_i32_97 : BitVec 32 := 14208#32
  let v193 : BitVec 32 := Scalar.minsi v189 c14208_i32_97
  let c0_i32_98 : BitVec 32 := 0#32
  let v194 : BitVec 32 := Scalar.maxsi v193 c0_i32_98
  let c128_i32_99 : BitVec 32 := 128#32
  let v195 : BitVec 32 := Scalar.divsi v194 c128_i32_99
  let c128_i32_100 : BitVec 32 := 128#32
  let v196 : BitVec 32 := Scalar.muli v195 c128_i32_100
  let v198 : Index := Scalar.indexCast v196
  ![0, v198.toNat]

def k0_chk10 (v189 : BitVec 32) : Prop :=
  (∀ a, (k0_off10 v189) a + S1x2176.size a ≤ S1x16384.size a)
theorem k0_off10_inb : ∀ (v189 : BitVec 32) (k0_hw10 : k0_chk10 v189), ∀ a, (k0_off10 v189) a + S1x2176.size a ≤ S1x16384.size a := fun v189 k0_hw10 => k0_hw10

def k0_off11 (v210 : BitVec 32) : Fin 2 → Nat :=
  let c0_112 : Index := 0#32
  let c14208_i32_108 : BitVec 32 := 14208#32
  let v214 : BitVec 32 := Scalar.minsi v210 c14208_i32_108
  let c0_i32_109 : BitVec 32 := 0#32
  let v215 : BitVec 32 := Scalar.maxsi v214 c0_i32_109
  let c128_i32_110 : BitVec 32 := 128#32
  let v216 : BitVec 32 := Scalar.divsi v215 c128_i32_110
  let c128_i32_111 : BitVec 32 := 128#32
  let v217 : BitVec 32 := Scalar.muli v216 c128_i32_111
  let v219 : Index := Scalar.indexCast v217
  ![0, v219.toNat]

def k0_chk11 (v210 : BitVec 32) : Prop :=
  (∀ a, (k0_off11 v210) a + S1x2176.size a ≤ S1x16384.size a)
theorem k0_off11_inb : ∀ (v210 : BitVec 32) (k0_hw11 : k0_chk11 v210), ∀ a, (k0_off11 v210) a + S1x2176.size a ≤ S1x16384.size a := fun v210 k0_hw11 => k0_hw11

def k0_off12 (v231 : BitVec 32) : Fin 2 → Nat :=
  let c0_123 : Index := 0#32
  let c14208_i32_119 : BitVec 32 := 14208#32
  let v235 : BitVec 32 := Scalar.minsi v231 c14208_i32_119
  let c0_i32_120 : BitVec 32 := 0#32
  let v236 : BitVec 32 := Scalar.maxsi v235 c0_i32_120
  let c128_i32_121 : BitVec 32 := 128#32
  let v237 : BitVec 32 := Scalar.divsi v236 c128_i32_121
  let c128_i32_122 : BitVec 32 := 128#32
  let v238 : BitVec 32 := Scalar.muli v237 c128_i32_122
  let v240 : Index := Scalar.indexCast v238
  ![0, v240.toNat]

def k0_chk12 (v231 : BitVec 32) : Prop :=
  (∀ a, (k0_off12 v231) a + S1x2176.size a ≤ S1x16384.size a)
theorem k0_off12_inb : ∀ (v231 : BitVec 32) (k0_hw12 : k0_chk12 v231), ∀ a, (k0_off12 v231) a + S1x2176.size a ≤ S1x16384.size a := fun v231 k0_hw12 => k0_hw12

def k0_off13 (v252 : BitVec 32) : Fin 2 → Nat :=
  let c0_134 : Index := 0#32
  let c14208_i32_130 : BitVec 32 := 14208#32
  let v256 : BitVec 32 := Scalar.minsi v252 c14208_i32_130
  let c0_i32_131 : BitVec 32 := 0#32
  let v257 : BitVec 32 := Scalar.maxsi v256 c0_i32_131
  let c128_i32_132 : BitVec 32 := 128#32
  let v258 : BitVec 32 := Scalar.divsi v257 c128_i32_132
  let c128_i32_133 : BitVec 32 := 128#32
  let v259 : BitVec 32 := Scalar.muli v258 c128_i32_133
  let v261 : Index := Scalar.indexCast v259
  ![0, v261.toNat]

def k0_chk13 (v252 : BitVec 32) : Prop :=
  (∀ a, (k0_off13 v252) a + S1x2176.size a ≤ S1x16384.size a)
theorem k0_off13_inb : ∀ (v252 : BitVec 32) (k0_hw13 : k0_chk13 v252), ∀ a, (k0_off13 v252) a + S1x2176.size a ≤ S1x16384.size a := fun v252 k0_hw13 => k0_hw13

def k0_off14 (v273 : BitVec 32) : Fin 2 → Nat :=
  let c0_145 : Index := 0#32
  let c14208_i32_141 : BitVec 32 := 14208#32
  let v277 : BitVec 32 := Scalar.minsi v273 c14208_i32_141
  let c0_i32_142 : BitVec 32 := 0#32
  let v278 : BitVec 32 := Scalar.maxsi v277 c0_i32_142
  let c128_i32_143 : BitVec 32 := 128#32
  let v279 : BitVec 32 := Scalar.divsi v278 c128_i32_143
  let c128_i32_144 : BitVec 32 := 128#32
  let v280 : BitVec 32 := Scalar.muli v279 c128_i32_144
  let v282 : Index := Scalar.indexCast v280
  ![0, v282.toNat]

def k0_chk14 (v273 : BitVec 32) : Prop :=
  (∀ a, (k0_off14 v273) a + S1x2176.size a ≤ S1x16384.size a)
theorem k0_off14_inb : ∀ (v273 : BitVec 32) (k0_hw14 : k0_chk14 v273), ∀ a, (k0_off14 v273) a + S1x2176.size a ≤ S1x16384.size a := fun v273 k0_hw14 => k0_hw14

def k0_off15 (v294 : BitVec 32) : Fin 2 → Nat :=
  let c0_156 : Index := 0#32
  let c14208_i32_152 : BitVec 32 := 14208#32
  let v298 : BitVec 32 := Scalar.minsi v294 c14208_i32_152
  let c0_i32_153 : BitVec 32 := 0#32
  let v299 : BitVec 32 := Scalar.maxsi v298 c0_i32_153
  let c128_i32_154 : BitVec 32 := 128#32
  let v300 : BitVec 32 := Scalar.divsi v299 c128_i32_154
  let c128_i32_155 : BitVec 32 := 128#32
  let v301 : BitVec 32 := Scalar.muli v300 c128_i32_155
  let v303 : Index := Scalar.indexCast v301
  ![0, v303.toNat]

def k0_chk15 (v294 : BitVec 32) : Prop :=
  (∀ a, (k0_off15 v294) a + S1x2176.size a ≤ S1x16384.size a)
theorem k0_off15_inb : ∀ (v294 : BitVec 32) (k0_hw15 : k0_chk15 v294), ∀ a, (k0_off15 v294) a + S1x2176.size a ≤ S1x16384.size a := fun v294 k0_hw15 => k0_hw15

def k0_off16 (v315 : BitVec 32) : Fin 2 → Nat :=
  let c0_167 : Index := 0#32
  let c14208_i32_163 : BitVec 32 := 14208#32
  let v319 : BitVec 32 := Scalar.minsi v315 c14208_i32_163
  let c0_i32_164 : BitVec 32 := 0#32
  let v320 : BitVec 32 := Scalar.maxsi v319 c0_i32_164
  let c128_i32_165 : BitVec 32 := 128#32
  let v321 : BitVec 32 := Scalar.divsi v320 c128_i32_165
  let c128_i32_166 : BitVec 32 := 128#32
  let v322 : BitVec 32 := Scalar.muli v321 c128_i32_166
  let v324 : Index := Scalar.indexCast v322
  ![0, v324.toNat]

def k0_chk16 (v315 : BitVec 32) : Prop :=
  (∀ a, (k0_off16 v315) a + S1x2176.size a ≤ S1x16384.size a)
theorem k0_off16_inb : ∀ (v315 : BitVec 32) (k0_hw16 : k0_chk16 v315), ∀ a, (k0_off16 v315) a + S1x2176.size a ≤ S1x16384.size a := fun v315 k0_hw16 => k0_hw16

abbrev stage0_0 : Fin 1 → Memref sig .tc .smem S17 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S21x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1984x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1984x144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1x16 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S16384 : Shape := ⟨1, ![16384]⟩
abbrev S17 : Shape := ⟨1, ![17]⟩
abbrev S21x3 : Shape := ⟨2, ![21, 3]⟩
abbrev S3 : Shape := ⟨1, ![3]⟩
abbrev S16 : Shape := ⟨1, ![16]⟩
abbrev S1984 : Shape := ⟨1, ![1984]⟩
abbrev S1984x1 : Shape := ⟨2, ![1984, 1]⟩
abbrev S1x16 : Shape := ⟨2, ![1, 16]⟩
abbrev S1984x16 : Shape := ⟨2, ![1984, 16]⟩
abbrev S_ : Shape := ⟨0, ![]⟩
abbrev S1984x16x1 : Shape := ⟨3, ![1984, 16, 1]⟩
abbrev S1x1x21 : Shape := ⟨3, ![1, 1, 21]⟩
abbrev S1984x16x21 : Shape := ⟨3, ![1984, 16, 21]⟩
abbrev S1984x16x3 : Shape := ⟨3, ![1984, 16, 3]⟩
abbrev S1x1x3 : Shape := ⟨3, ![1, 1, 3]⟩
abbrev S1984x48 : Shape := ⟨2, ![1984, 48]⟩
abbrev S1984x3x16 : Shape := ⟨3, ![1984, 3, 16]⟩
abbrev S5952x16 : Shape := ⟨2, ![5952, 16]⟩
abbrev S1x3 : Shape := ⟨2, ![1, 3]⟩
abbrev S1984x3 : Shape := ⟨2, ![1984, 3]⟩
abbrev S5952 : Shape := ⟨1, ![5952]⟩
abbrev S16x3 : Shape := ⟨2, ![16, 3]⟩
abbrev S1x16x3 : Shape := ⟨3, ![1, 16, 3]⟩
abbrev S3x16x3 : Shape := ⟨3, ![3, 16, 3]⟩
abbrev S5952x16x3 : Shape := ⟨3, ![5952, 16, 3]⟩
abbrev S1 : Shape := ⟨1, ![1]⟩
abbrev S16x1 : Shape := ⟨2, ![16, 1]⟩
abbrev S3x16 : Shape := ⟨2, ![3, 16]⟩
abbrev S16x3x1 : Shape := ⟨3, ![16, 3, 1]⟩
abbrev S16x3x3 : Shape := ⟨3, ![16, 3, 3]⟩
abbrev S1984x3x16x3 : Shape := ⟨4, ![1984, 3, 16, 3]⟩
abbrev S1984x16x3x3 : Shape := ⟨4, ![1984, 16, 3, 3]⟩
abbrev S1984x16x9 : Shape := ⟨3, ![1984, 16, 9]⟩
abbrev S1984x144 : Shape := ⟨2, ![1984, 144]⟩

abbrev nBuf : Space → Nat
  | .hbm => 198
  | .vmem => 0
  | .smem => 0
  | _ => 0

abbrev hbmTy0_0 (i : Nat) : BufTy := match i % 128 with
  | 0 => ⟨S16384, .i32⟩
  | 1 => ⟨S17, .i32⟩
  | 2 => ⟨S21x3, .f32⟩
  | 3 => ⟨S3, .f32⟩
  | 4 => ⟨S3, .f32⟩
  | 5 => ⟨S3, .f32⟩
  | 6 => ⟨S3, .f32⟩
  | 7 => ⟨S3, .f32⟩
  | 8 => ⟨S16, .i32⟩
  | 9 => ⟨S16, .i32⟩
  | 10 => ⟨S16, .i32⟩
  | 11 => ⟨S1984, .i32⟩
  | 12 => ⟨S1984x1, .i32⟩
  | 13 => ⟨S16, .i32⟩
  | 14 => ⟨S1x16, .i32⟩
  | 15 => ⟨S1984x16, .i32⟩
  | 16 => ⟨S1984x16, .i32⟩
  | 17 => ⟨S1984x16, .i32⟩
  | 18 => ⟨S_, .i32⟩
  | 19 => ⟨S_, .i32⟩
  | 20 => ⟨S_, .i32⟩
  | 21 => ⟨S1984x16, .i32⟩
  | 22 => ⟨S1984x16, .i32⟩
  | 23 => ⟨S_, .i32⟩
  | 24 => ⟨S1984x16, .i32⟩
  | 25 => ⟨S1984x16, .i32⟩
  | 26 => ⟨S1x16, .i32⟩
  | 27 => ⟨S1984x16, .i32⟩
  | 28 => ⟨S1984x16, .i32⟩
  | 29 => ⟨S1984x16, .i1⟩
  | 30 => ⟨S_, .i32⟩
  | 31 => ⟨S1984x16, .i32⟩
  | 32 => ⟨S1984x16, .i1⟩
  | 33 => ⟨S_, .i32⟩
  | 34 => ⟨S1984x16, .i32⟩
  | 35 => ⟨S1984x16, .i32⟩
  | 36 => ⟨S1984x16, .i32⟩
  | 37 => ⟨S1984x16x1, .i32⟩
  | 38 => ⟨S1984x16, .i32⟩
  | 39 => ⟨S_, .i32⟩
  | 40 => ⟨S_, .i32⟩
  | 41 => ⟨S1984x16, .i32⟩
  | 42 => ⟨S1984x16, .i32⟩
  | 43 => ⟨S1984x16x1, .i32⟩
  | 44 => ⟨S1x1x21, .i32⟩
  | 45 => ⟨S1984x16x21, .i32⟩
  | 46 => ⟨S1984x16x21, .i32⟩
  | 47 => ⟨S1984x16x21, .i1⟩
  | 48 => ⟨S1984x16x21, .f32⟩
  | 49 => ⟨S1984x16x3, .f32⟩
  | 50 => ⟨S1x1x3, .f32⟩
  | 51 => ⟨S1984x16x3, .f32⟩
  | 52 => ⟨S1984x16x3, .f32⟩
  | 53 => ⟨S1984x16x3, .f32⟩
  | 54 => ⟨S_, .f32⟩
  | 55 => ⟨S1984x16x3, .f32⟩
  | 56 => ⟨S1984x16x3, .f32⟩
  | 57 => ⟨S1984x48, .f32⟩
  | 58 => ⟨S1x16, .i32⟩
  | 59 => ⟨S1984x3x16, .f32⟩
  | 60 => ⟨S5952x16, .f32⟩
  | 61 => ⟨S1x3, .f32⟩
  | 62 => ⟨S1984x3, .f32⟩
  | 63 => ⟨S5952, .f32⟩
  | 64 => ⟨S1x3, .f32⟩
  | 65 => ⟨S1984x3, .f32⟩
  | 66 => ⟨S5952, .f32⟩
  | 67 => ⟨S16x3, .f32⟩
  | 68 => ⟨S16x3, .f32⟩
  | 69 => ⟨S_, .f32⟩
  | 70 => ⟨S16x3, .f32⟩
  | 71 => ⟨S1x16x3, .f32⟩
  | 72 => ⟨S1x16x3, .f32⟩
  | 73 => ⟨S1x16x3, .f32⟩
  | 74 => ⟨S3x16x3, .f32⟩
  | 75 => ⟨S_, .f32⟩
  | 76 => ⟨S5952x16x3, .f32⟩
  | 77 => ⟨S_, .i32⟩
  | 78 => ⟨S5952, .f32⟩
  | 79 => ⟨S5952, .f32⟩
  | 80 => ⟨S5952x16, .f32⟩
  | 81 => ⟨S_, .i32⟩
  | 82 => ⟨S3x16x3, .f32⟩
  | 83 => ⟨S5952x16x3, .f32⟩
  | 84 => ⟨S_, .i32⟩
  | 85 => ⟨S_, .i1⟩
  | 86 => ⟨S1, .f32⟩
  | 87 => ⟨S_, .f32⟩
  | 88 => ⟨S1, .f32⟩
  | 89 => ⟨S_, .f32⟩
  | 90 => ⟨S_, .i32⟩
  | 91 => ⟨S1x16, .f32⟩
  | 92 => ⟨S16, .f32⟩
  | 93 => ⟨S1x16x3, .f32⟩
  | 94 => ⟨S16x3, .f32⟩
  | 95 => ⟨S1x16x3, .f32⟩
  | 96 => ⟨S16x3, .f32⟩
  | 97 => ⟨S1x16x3, .f32⟩
  | 98 => ⟨S16x3, .f32⟩
  | 99 => ⟨S16x3, .f32⟩
  | 100 => ⟨S16x3, .f32⟩
  | 101 => ⟨S_, .f32⟩
  | 102 => ⟨S16, .f32⟩
  | 103 => ⟨S16x1, .f32⟩
  | 104 => ⟨S16x1, .f32⟩
  | 105 => ⟨S16x3, .f32⟩
  | 106 => ⟨S16x3, .f32⟩
  | 107 => ⟨S16x3, .f32⟩
  | 108 => ⟨S16x1, .f32⟩
  | 109 => ⟨S16, .f32⟩
  | 110 => ⟨S16x1, .f32⟩
  | 111 => ⟨S16, .f32⟩
  | 112 => ⟨S16x1, .f32⟩
  | 113 => ⟨S16, .f32⟩
  | 114 => ⟨S16x1, .f32⟩
  | 115 => ⟨S16, .f32⟩
  | 116 => ⟨S16x1, .f32⟩
  | 117 => ⟨S16, .f32⟩
  | 118 => ⟨S16x1, .f32⟩
  | 119 => ⟨S16, .f32⟩
  | 120 => ⟨S16, .f32⟩
  | 121 => ⟨S16, .f32⟩
  | 122 => ⟨S16, .f32⟩
  | 123 => ⟨S16, .f32⟩
  | 124 => ⟨S16, .f32⟩
  | 125 => ⟨S16, .f32⟩
  | 126 => ⟨S16, .f32⟩
  | 127 => ⟨S16, .f32⟩
  | _ => ⟨S16384, .i32⟩

abbrev hbmTy0_1 (i : Nat) : BufTy := match i % 128 with
  | 0 => ⟨S16, .f32⟩
  | 1 => ⟨S1x16, .f32⟩
  | 2 => ⟨S1x16, .f32⟩
  | 3 => ⟨S1x16, .f32⟩
  | 4 => ⟨S3x16, .f32⟩
  | 5 => ⟨S16x3, .f32⟩
  | 6 => ⟨S16x3, .f32⟩
  | 7 => ⟨S_, .f32⟩
  | 8 => ⟨S16, .f32⟩
  | 9 => ⟨S16x1, .f32⟩
  | 10 => ⟨S16x1, .f32⟩
  | 11 => ⟨S16x3, .f32⟩
  | 12 => ⟨S16x3, .f32⟩
  | 13 => ⟨S16x1, .f32⟩
  | 14 => ⟨S16, .f32⟩
  | 15 => ⟨S16x1, .f32⟩
  | 16 => ⟨S16, .f32⟩
  | 17 => ⟨S16x1, .f32⟩
  | 18 => ⟨S16, .f32⟩
  | 19 => ⟨S16x1, .f32⟩
  | 20 => ⟨S16, .f32⟩
  | 21 => ⟨S16x1, .f32⟩
  | 22 => ⟨S16, .f32⟩
  | 23 => ⟨S16x1, .f32⟩
  | 24 => ⟨S16, .f32⟩
  | 25 => ⟨S16, .f32⟩
  | 26 => ⟨S16, .f32⟩
  | 27 => ⟨S16, .f32⟩
  | 28 => ⟨S16, .f32⟩
  | 29 => ⟨S16, .f32⟩
  | 30 => ⟨S16, .f32⟩
  | 31 => ⟨S16, .f32⟩
  | 32 => ⟨S16, .f32⟩
  | 33 => ⟨S16, .f32⟩
  | 34 => ⟨S1x16, .f32⟩
  | 35 => ⟨S1x16, .f32⟩
  | 36 => ⟨S1x16, .f32⟩
  | 37 => ⟨S3x16, .f32⟩
  | 38 => ⟨S16x3, .f32⟩
  | 39 => ⟨S16x3x1, .f32⟩
  | 40 => ⟨S16x3x1, .f32⟩
  | 41 => ⟨S16x3x1, .f32⟩
  | 42 => ⟨S16x3x3, .f32⟩
  | 43 => ⟨S16, .f32⟩
  | 44 => ⟨S16, .f32⟩
  | 45 => ⟨S16, .f32⟩
  | 46 => ⟨S16, .f32⟩
  | 47 => ⟨S16, .f32⟩
  | 48 => ⟨S16, .f32⟩
  | 49 => ⟨S16, .f32⟩
  | 50 => ⟨S16x1, .f32⟩
  | 51 => ⟨S16x1, .f32⟩
  | 52 => ⟨S16x1, .f32⟩
  | 53 => ⟨S16x3, .f32⟩
  | 54 => ⟨S16x3, .f32⟩
  | 55 => ⟨S16x3, .f32⟩
  | 56 => ⟨S1x16x3, .f32⟩
  | 57 => ⟨S1x16x3, .f32⟩
  | 58 => ⟨S1x16x3, .f32⟩
  | 59 => ⟨S3x16x3, .f32⟩
  | 60 => ⟨S1x16x3, .f32⟩
  | 61 => ⟨S_, .i32⟩
  | 62 => ⟨S_, .i32⟩
  | 63 => ⟨S5952x16x3, .f32⟩
  | 64 => ⟨S_, .i32⟩
  | 65 => ⟨S_, .i32⟩
  | 66 => ⟨S1984x3x16x3, .f32⟩
  | 67 => ⟨S1984x16x3x3, .f32⟩
  | 68 => ⟨S1984x16x9, .f32⟩
  | 69 => ⟨S1984x144, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_c_10 : Ref sig .tc := ⟨.hbm, 77, rfl⟩
abbrev main_v49_0 : Ref sig .tc := ⟨.hbm, 78, rfl⟩
abbrev main_v49_1 : Ref sig .tc := ⟨.hbm, 79, rfl⟩
abbrev main_v49_2 : Ref sig .tc := ⟨.hbm, 80, rfl⟩
abbrev main_v49_3 : Ref sig .tc := ⟨.hbm, 81, rfl⟩
abbrev main_v49_4 : Ref sig .tc := ⟨.hbm, 82, rfl⟩
abbrev main_v49_5 : Ref sig .tc := ⟨.hbm, 83, rfl⟩
abbrev main_while0c_c_16 : Ref sig .tc := ⟨.hbm, 84, rfl⟩
abbrev main_while0c_v54 : Ref sig .tc := ⟨.hbm, 85, rfl⟩
abbrev main_while0b_call3_v0 : Ref sig .tc := ⟨.hbm, 86, rfl⟩
abbrev main_while0b_v54 : Ref sig .tc := ⟨.hbm, 87, rfl⟩
abbrev main_while0b_call4_v0 : Ref sig .tc := ⟨.hbm, 88, rfl⟩
abbrev main_while0b_v55 : Ref sig .tc := ⟨.hbm, 89, rfl⟩
abbrev main_while0b_call5_c : Ref sig .tc := ⟨.hbm, 90, rfl⟩
abbrev main_while0b_call5_v0 : Ref sig .tc := ⟨.hbm, 91, rfl⟩
abbrev main_while0b_v56 : Ref sig .tc := ⟨.hbm, 92, rfl⟩
abbrev main_while0b_v57 : Ref sig .tc := ⟨.hbm, 93, rfl⟩
abbrev main_while0b_v58 : Ref sig .tc := ⟨.hbm, 94, rfl⟩
abbrev main_while0b_v59 : Ref sig .tc := ⟨.hbm, 95, rfl⟩
abbrev main_while0b_v60 : Ref sig .tc := ⟨.hbm, 96, rfl⟩
abbrev main_while0b_v61 : Ref sig .tc := ⟨.hbm, 97, rfl⟩
abbrev main_while0b_v62 : Ref sig .tc := ⟨.hbm, 98, rfl⟩
abbrev main_while0b_v63 : Ref sig .tc := ⟨.hbm, 99, rfl⟩
abbrev main_while0b_call6_v0 : Ref sig .tc := ⟨.hbm, 100, rfl⟩
abbrev main_while0b_call6_cst : Ref sig .tc := ⟨.hbm, 101, rfl⟩
abbrev main_while0b_call6_v1 : Ref sig .tc := ⟨.hbm, 102, rfl⟩
abbrev main_while0b_call6_v2 : Ref sig .tc := ⟨.hbm, 103, rfl⟩
abbrev main_while0b_v64 : Ref sig .tc := ⟨.hbm, 104, rfl⟩
abbrev main_while0b_v65 : Ref sig .tc := ⟨.hbm, 105, rfl⟩
abbrev main_while0b_v66 : Ref sig .tc := ⟨.hbm, 106, rfl⟩
abbrev main_while0b_v67 : Ref sig .tc := ⟨.hbm, 107, rfl⟩
abbrev main_while0b_call7_v0 : Ref sig .tc := ⟨.hbm, 108, rfl⟩
abbrev main_while0b_call7_v1 : Ref sig .tc := ⟨.hbm, 109, rfl⟩
abbrev main_while0b_call7_v2 : Ref sig .tc := ⟨.hbm, 110, rfl⟩
abbrev main_while0b_call7_v3 : Ref sig .tc := ⟨.hbm, 111, rfl⟩
abbrev main_while0b_call7_v4 : Ref sig .tc := ⟨.hbm, 112, rfl⟩
abbrev main_while0b_call7_v5 : Ref sig .tc := ⟨.hbm, 113, rfl⟩
abbrev main_while0b_call7_v6 : Ref sig .tc := ⟨.hbm, 114, rfl⟩
abbrev main_while0b_call7_v7 : Ref sig .tc := ⟨.hbm, 115, rfl⟩
abbrev main_while0b_call7_v8 : Ref sig .tc := ⟨.hbm, 116, rfl⟩
abbrev main_while0b_call7_v9 : Ref sig .tc := ⟨.hbm, 117, rfl⟩
abbrev main_while0b_call7_v10 : Ref sig .tc := ⟨.hbm, 118, rfl⟩
abbrev main_while0b_call7_v11 : Ref sig .tc := ⟨.hbm, 119, rfl⟩
abbrev main_while0b_call7_v12 : Ref sig .tc := ⟨.hbm, 120, rfl⟩
abbrev main_while0b_call7_v13 : Ref sig .tc := ⟨.hbm, 121, rfl⟩
abbrev main_while0b_call7_v14 : Ref sig .tc := ⟨.hbm, 122, rfl⟩
abbrev main_while0b_call7_v15 : Ref sig .tc := ⟨.hbm, 123, rfl⟩
abbrev main_while0b_call7_v16 : Ref sig .tc := ⟨.hbm, 124, rfl⟩
abbrev main_while0b_call7_v17 : Ref sig .tc := ⟨.hbm, 125, rfl⟩
abbrev main_while0b_call7_v18 : Ref sig .tc := ⟨.hbm, 126, rfl⟩
abbrev main_while0b_call7_v19 : Ref sig .tc := ⟨.hbm, 127, rfl⟩
abbrev main_while0b_call7_v20 : Ref sig .tc := ⟨.hbm, 128, rfl⟩
abbrev main_while0b_call7_v21 : Ref sig .tc := ⟨.hbm, 129, rfl⟩
abbrev main_while0b_call7_v22 : Ref sig .tc := ⟨.hbm, 130, rfl⟩
abbrev main_while0b_call7_v23 : Ref sig .tc := ⟨.hbm, 131, rfl⟩
abbrev main_while0b_call7_v24 : Ref sig .tc := ⟨.hbm, 132, rfl⟩
abbrev main_while0b_v68 : Ref sig .tc := ⟨.hbm, 133, rfl⟩
abbrev main_while0b_call8_v0 : Ref sig .tc := ⟨.hbm, 134, rfl⟩
abbrev main_while0b_call8_cst : Ref sig .tc := ⟨.hbm, 135, rfl⟩
abbrev main_while0b_call8_v1 : Ref sig .tc := ⟨.hbm, 136, rfl⟩
abbrev main_while0b_call8_v2 : Ref sig .tc := ⟨.hbm, 137, rfl⟩
abbrev main_while0b_v69 : Ref sig .tc := ⟨.hbm, 138, rfl⟩
abbrev main_while0b_v70 : Ref sig .tc := ⟨.hbm, 139, rfl⟩
abbrev main_while0b_v71 : Ref sig .tc := ⟨.hbm, 140, rfl⟩
abbrev main_while0b_call9_v0 : Ref sig .tc := ⟨.hbm, 141, rfl⟩
abbrev main_while0b_call9_v1 : Ref sig .tc := ⟨.hbm, 142, rfl⟩
abbrev main_while0b_call9_v2 : Ref sig .tc := ⟨.hbm, 143, rfl⟩
abbrev main_while0b_call9_v3 : Ref sig .tc := ⟨.hbm, 144, rfl⟩
abbrev main_while0b_call9_v4 : Ref sig .tc := ⟨.hbm, 145, rfl⟩
abbrev main_while0b_call9_v5 : Ref sig .tc := ⟨.hbm, 146, rfl⟩
abbrev main_while0b_call9_v6 : Ref sig .tc := ⟨.hbm, 147, rfl⟩
abbrev main_while0b_call9_v7 : Ref sig .tc := ⟨.hbm, 148, rfl⟩
abbrev main_while0b_call9_v8 : Ref sig .tc := ⟨.hbm, 149, rfl⟩
abbrev main_while0b_call9_v9 : Ref sig .tc := ⟨.hbm, 150, rfl⟩
abbrev main_while0b_call9_v10 : Ref sig .tc := ⟨.hbm, 151, rfl⟩
abbrev main_while0b_call9_v11 : Ref sig .tc := ⟨.hbm, 152, rfl⟩
abbrev main_while0b_call9_v12 : Ref sig .tc := ⟨.hbm, 153, rfl⟩
abbrev main_while0b_call9_v13 : Ref sig .tc := ⟨.hbm, 154, rfl⟩
abbrev main_while0b_call9_v14 : Ref sig .tc := ⟨.hbm, 155, rfl⟩
abbrev main_while0b_call9_v15 : Ref sig .tc := ⟨.hbm, 156, rfl⟩
abbrev main_while0b_call9_v16 : Ref sig .tc := ⟨.hbm, 157, rfl⟩
abbrev main_while0b_call9_v17 : Ref sig .tc := ⟨.hbm, 158, rfl⟩
abbrev main_while0b_call9_v18 : Ref sig .tc := ⟨.hbm, 159, rfl⟩
abbrev main_while0b_call9_v19 : Ref sig .tc := ⟨.hbm, 160, rfl⟩
abbrev main_while0b_call9_v20 : Ref sig .tc := ⟨.hbm, 161, rfl⟩
abbrev main_while0b_call9_v21 : Ref sig .tc := ⟨.hbm, 162, rfl⟩
abbrev main_while0b_call9_v22 : Ref sig .tc := ⟨.hbm, 163, rfl⟩
abbrev main_while0b_call9_v23 : Ref sig .tc := ⟨.hbm, 164, rfl⟩
abbrev main_while0b_call9_v24 : Ref sig .tc := ⟨.hbm, 165, rfl⟩
abbrev main_while0b_v72 : Ref sig .tc := ⟨.hbm, 166, rfl⟩
abbrev main_while0b_v73 : Ref sig .tc := ⟨.hbm, 167, rfl⟩
abbrev main_while0b_v74 : Ref sig .tc := ⟨.hbm, 168, rfl⟩
abbrev main_while0b_v75 : Ref sig .tc := ⟨.hbm, 169, rfl⟩
abbrev main_while0b_v76 : Ref sig .tc := ⟨.hbm, 170, rfl⟩
abbrev main_while0b_v77 : Ref sig .tc := ⟨.hbm, 171, rfl⟩
abbrev main_while0b_v78 : Ref sig .tc := ⟨.hbm, 172, rfl⟩
abbrev main_while0b_v79 : Ref sig .tc := ⟨.hbm, 173, rfl⟩
abbrev main_while0b_v80 : Ref sig .tc := ⟨.hbm, 174, rfl⟩
abbrev main_while0b_v81 : Ref sig .tc := ⟨.hbm, 175, rfl⟩
abbrev main_while0b_v82 : Ref sig .tc := ⟨.hbm, 176, rfl⟩
abbrev main_while0b_v83 : Ref sig .tc := ⟨.hbm, 177, rfl⟩
abbrev main_while0b_v84 : Ref sig .tc := ⟨.hbm, 178, rfl⟩
abbrev main_while0b_v85 : Ref sig .tc := ⟨.hbm, 179, rfl⟩
abbrev main_while0b_v86 : Ref sig .tc := ⟨.hbm, 180, rfl⟩
abbrev main_while0b_v87 : Ref sig .tc := ⟨.hbm, 181, rfl⟩
abbrev main_while0b_v88 : Ref sig .tc := ⟨.hbm, 182, rfl⟩
abbrev main_while0b_v89 : Ref sig .tc := ⟨.hbm, 183, rfl⟩
abbrev main_while0b_v90 : Ref sig .tc := ⟨.hbm, 184, rfl⟩
abbrev main_while0b_v91 : Ref sig .tc := ⟨.hbm, 185, rfl⟩
abbrev main_while0b_v92 : Ref sig .tc := ⟨.hbm, 186, rfl⟩
abbrev main_while0b_v93 : Ref sig .tc := ⟨.hbm, 187, rfl⟩
abbrev main_while0b_call10_v0 : Ref sig .tc := ⟨.hbm, 188, rfl⟩
abbrev main_while0b_call10_c : Ref sig .tc := ⟨.hbm, 189, rfl⟩
abbrev main_while0b_call10_c_0 : Ref sig .tc := ⟨.hbm, 190, rfl⟩
abbrev main_while0b_v94 : Ref sig .tc := ⟨.hbm, 191, rfl⟩
abbrev main_while0b_c_16 : Ref sig .tc := ⟨.hbm, 192, rfl⟩
abbrev main_while0b_v95 : Ref sig .tc := ⟨.hbm, 193, rfl⟩
abbrev main_v50 : Ref sig .tc := ⟨.hbm, 194, rfl⟩
abbrev main_v51 : Ref sig .tc := ⟨.hbm, 195, rfl⟩
abbrev main_v52 : Ref sig .tc := ⟨.hbm, 196, rfl⟩
abbrev main_v53 : Ref sig .tc := ⟨.hbm, 197, rfl⟩

abbrev nD : Nat := 1
abbrev τ : Topo := Topo.v7x

variable {F : FTy → Type} [FloatOps F]

abbrev main_while0_count : Scf.Loop 32 := ⟨0#32, 5952#32, 1#32⟩
-- ==== Proof.Model.lean ====
module

public import proofs.«01_k».proof.Proof.Gen.KernelIdeal.Value

@[expose] public section

noncomputable section

namespace Cert.Model

open Idealize.ShloMosaic Cert.KernelIdeal

variable {F : FTy → Type} [FloatOps F]

/-- Three things of one kind, one per coordinate. -/
structure Tri (α : Type) where
  x : α
  y : α
  z : α

/-- One number per sequence and chunk. -/
abbrev Vc (F : FTy → Type) := FVec F S16x124 .f32

/-- One number per residue of a chunk, sequence and chunk. -/
abbrev Vr (F : FTy → Type) := FVec F S16x16x124 .f32

/-- Coordinatewise difference. -/
def sub3 (p q : Tri (Vc F)) : Tri (Vc F) := ⟨subf p.x q.x, subf p.y q.y, subf p.z q.z⟩

/-- Cross product. -/
def cross3 (p q : Tri (Vc F)) : Tri (Vc F) :=
  ⟨subf (mulf p.y q.z) (mulf p.z q.y), subf (mulf p.z q.x) (mulf p.x q.z), subf (mulf p.x q.y) (mulf p.y q.x)⟩

/-- One over the length. -/
def inv3 (p : Tri (Vc F)) : Vc F := rsqrt (addf (addf (mulf p.x p.x) (mulf p.y p.y)) (mulf p.z p.z))

/-- The vector of length one. -/
def unit3 (p : Tri (Vc F)) : Tri (Vc F) := ⟨mulf p.x (inv3 p), mulf p.y (inv3 p), mulf p.z (inv3 p)⟩

/-- The last three atoms of every chain. -/
structure Atoms (F : FTy → Type) where
  a : Tri (Vc F)
  b : Tri (Vc F)
  c : Tri (Vc F)

/-- The direction of the last bond. -/
def Atoms.u (s : Atoms F) : Tri (Vc F) := unit3 (sub3 s.c s.b)
/-- The normal of the plane of the last three atoms. -/
def Atoms.n (s : Atoms F) : Tri (Vc F) := unit3 (cross3 (sub3 s.b s.a) s.u)
/-- The third direction. -/
def Atoms.m (s : Atoms F) : Tri (Vc F) := cross3 s.n s.u

/-- A chunk's residue taken out of an array over residues. -/
theorem slices_row (r : ℕ) (hr : r < 16) : S16x16x124.Slices ![r, 0, 0] S1x16x124 :=
  ⟨rfl, fun a => by fin_cases a <;> simp [S16x16x124, S1x16x124] <;> omega⟩

/-- Row `r` of an array over residues. -/
def row (v : Vr F) (r : ℕ) (hr : r < 16) : Vc F :=
  shapeCast S16x124 (extractStridedSlice S1x16x124 ![r, 0, 0] v (slices_row r hr)) (by decide)

/-- The next atom. -/
def Atoms.next (s : Atoms F) (k : F .f32) (dy dz : Vc F) : Tri (Vc F) :=
  ⟨addf (addf (addf s.c.x (mulf s.u.x (broadcast S16x124 k))) (mulf s.m.x dy)) (mulf s.n.x dz),
   addf (addf (addf s.c.y (mulf s.u.y (broadcast S16x124 k))) (mulf s.m.y dy)) (mulf s.n.y dz),
   addf (addf (addf s.c.z (mulf s.u.z (broadcast S16x124 k))) (mulf s.m.z dy)) (mulf s.n.z dz)⟩

/-- One step of the chain. -/
def Atoms.step (s : Atoms F) (k : F .f32) (dy dz : Vc F) : Atoms F := ⟨s.b, s.c, s.next k dy dz⟩

/-- A constant of the program. -/
abbrev lit (w : BitVec 32) : F .f32 := Scalar.ofBits .f32 w

/-- A constant at every place. -/
abbrev full (w : BitVec 32) : Vc F := broadcast S16x124 (lit w)

/-- The three atoms every chunk starts from. -/
def start : Atoms F :=
  ⟨⟨full 0xC0000000#32, full 0x3F800000#32, full 0x00000000#32⟩,
   ⟨full 0xBF800000#32, full 0x00000000#32, full 0x00000000#32⟩,
   ⟨full 0x00000000#32, full 0x00000000#32, full 0x00000000#32⟩⟩

/-- One of three, by number. -/
def pick {α : Type} (t : Tri α) : ℕ → α
  | 0 => t.x
  | 1 => t.y
  | _ => t.z

/-- The bond's component along the last bond, by kind of atom. -/
def bondX : Tri (F .f32) := ⟨lit 0x3F441C43#32, lit 0x3F0D1044#32, lit 0x3F15BC9A#32⟩

/-- The atoms after `n` steps. -/
def chain (dy dz : Tri (Vr F)) : (n : ℕ) → n ≤ 48 → Atoms F
  | 0, _ => start
  | n + 1, h =>
    (chain dy dz n (Nat.le_of_succ_le h)).step (pick bondX (n % 3))
      (row (pick dy (n % 3)) (n / 3) (by omega)) (row (pick dz (n % 3)) (n / 3) (by omega))

/-- Where a step's coordinate is stored. -/
theorem piece_inb (n c : ℕ) (hn : n < 48) (hc : c < 3) :
    ∀ a, (![n, c, 0, 0] : Fin 4 → ℕ) a + S1x1x16x124.size a ≤ S48x3x16x124.size a :=
  fun a => by fin_cases a <;> simp [S1x1x16x124, S48x3x16x124] <;> omega

/-- One store of one coordinate of one step. -/
def piece (n c : ℕ) (hn : n < 48) (hc : c < 3) (v : Vc F) : View.Piece (Elt F) S48x3x16x124 .f32 :=
  ⟨Rect.unit ![n, c, 0, 0] S1x1x16x124.size (piece_inb n c hn hc), shapeCast S1x1x16x124 v (by decide)⟩

/-- The stores of the first `n` steps, the last one first. -/
def pieces (dy dz : Tri (Vr F)) : (n : ℕ) → n ≤ 48 → List (View.Piece (Elt F) S48x3x16x124 .f32)
  | 0, _ => []
  | n + 1, h =>
    piece n 2 h (by decide) (chain dy dz (n + 1) h).c.z :: piece n 1 h (by decide) (chain dy dz (n + 1) h).c.y ::
      piece n 0 h (by decide) (chain dy dz (n + 1) h).c.x :: pieces dy dz n (Nat.le_of_succ_le h)

/-! ### The scan over chunks -/

/-- One rigid motion per sequence and chunk: three rows of a rotation and a translation. -/
structure Rig (F : FTy → Type) where
  r : Tri (Tri (Vc F))
  t : Tri (Vc F)

/-- The motion that the last three atoms stand for. -/
def Atoms.rig (s : Atoms F) : Rig F :=
  ⟨⟨⟨s.u.x, s.m.x, s.n.x⟩, ⟨s.u.y, s.m.y, s.n.y⟩, ⟨s.u.z, s.m.z, s.n.z⟩⟩, s.c⟩

/-- The chunks before the last `d`. -/
theorem slices_front (d : ℕ) (hd : d < 124) : S16x124.Slices ![0, 0] ⟨2, ![16, 124 - d]⟩ :=
  ⟨rfl, fun a => by fin_cases a <;> simp [S16x124]⟩

/-- `d` chunks of padding and the rest make all the chunks. -/
theorem concat_shift (d : ℕ) (hd : d < 124) :
    Shape.Concatenates [(⟨2, ![16, d]⟩ : Shape), ⟨2, ![16, 124 - d]⟩] S16x124 1 := by
  refine ⟨by simp, fun s hs => ?_, ?_⟩
  · simp only [List.mem_cons, List.not_mem_nil, or_false] at hs
    rcases hs with rfl | rfl <;> exact ⟨rfl, fun b hb => by fin_cases b <;> simp_all [S16x124]⟩
  · simp [S16x124]; omega

/-- The values `d` chunks earlier, a constant where there are none. -/
def shift (d : ℕ) (hd : d < 124) (w : BitVec 32) (v : Vc F) : Vc F :=
  concatenate S16x124 1 [⟨⟨2, ![16, d]⟩, broadcast ⟨2, ![16, d]⟩ (lit w)⟩,
    ⟨⟨2, ![16, 124 - d]⟩, extractStridedSlice ⟨2, ![16, 124 - d]⟩ ![0, 0] v (slices_front d hd)⟩] (concat_shift d hd)

/-- The motions `d` chunks earlier, the motion that moves nothing where there are none. -/
def Rig.shift (d : ℕ) (hd : d < 124) (g : Rig F) : Rig F :=
  ⟨⟨⟨Model.shift d hd 0x3F800000#32 g.r.x.x, Model.shift d hd 0x00000000#32 g.r.x.y, Model.shift d hd 0x00000000#32 g.r.x.z⟩,
    ⟨Model.shift d hd 0x00000000#32 g.r.y.x, Model.shift d hd 0x3F800000#32 g.r.y.y, Model.shift d hd 0x00000000#32 g.r.y.z⟩,
    ⟨Model.shift d hd 0x00000000#32 g.r.z.x, Model.shift d hd 0x00000000#32 g.r.z.y, Model.shift d hd 0x3F800000#32 g.r.z.z⟩⟩,
   ⟨Model.shift d hd 0x00000000#32 g.t.x, Model.shift d hd 0x00000000#32 g.t.y, Model.shift d hd 0x00000000#32 g.t.z⟩⟩

/-- A row against three vectors. -/
def dot3 (p : Tri (Vc F)) (a b c : Vc F) : Vc F := addf (addf (mulf p.x a) (mulf p.y b)) (mulf p.z c)

/-- A row of a rotation after a rotation. -/
def row3 (p : Tri (Vc F)) (r : Tri (Tri (Vc F))) : Tri (Vc F) :=
  ⟨dot3 p r.x.x r.y.x r.z.x, dot3 p r.x.y r.y.y r.z.y, dot3 p r.x.z r.y.z r.z.z⟩

/-- One motion after another. -/
def Rig.comp (g h : Rig F) : Rig F :=
  ⟨⟨row3 g.r.x h.r, row3 g.r.y h.r, row3 g.r.z h.r⟩,
   ⟨addf (dot3 g.r.x h.t.x h.t.y h.t.z) g.t.x, addf (dot3 g.r.y h.t.x h.t.y h.t.z) g.t.y,
    addf (dot3 g.r.z h.t.x h.t.y h.t.z) g.t.z⟩⟩

/-- Below seven, a power of two is below the number of chunks. -/
theorem pow_lt (k : ℕ) (hk : k < 7) : 2 ^ k < 124 := by
  have : 2 ^ k ≤ 2 ^ 6 := Nat.pow_le_pow_right (by decide) (by omega)
  omega

/-- The motions after `k` rounds of doubling. -/
def scanned (g : Rig F) : (k : ℕ) → k ≤ 7 → Rig F
  | 0, _ => g
  | k + 1, h => ((scanned g k (Nat.le_of_succ_le h)).shift (2 ^ k) (pow_lt k h)).comp (scanned g k (Nat.le_of_succ_le h))

/-- The motion that carries each chunk to its place. -/
def before (g : Rig F) : Rig F := (scanned g 7 (le_refl 7)).shift 1 (by decide)

/-! ### The positions -/

/-- One coordinate of every stored position. -/
def plane (v : Vec F S48x3x16x124 .f32) (c : ℕ) (h : S48x3x16x124.Slices ![0, c, 0, 0] S48x1x16x124) : FVec F S48x16x124 .f32 :=
  shapeCast S48x16x124 (extractStridedSlice S48x1x16x124 ![0, c, 0, 0] v h) (by decide)

/-- The same numbers at every step. -/
def every (v : Vc F) : FVec F S48x16x124 .f32 :=
  broadcastTo S48x16x124 (shapeCast S1x16x124 v (by decide)) (by decide)

/-- One coordinate of the moved positions. -/
def moved (v : Vec F S48x3x16x124 .f32) (p : Tri (Vc F)) (t : Vc F) : FVec F S48x16x124 .f32 :=
  addf (addf (addf (mulf (plane v 0 (by decide)) (every p.x)) (mulf (plane v 1 (by decide)) (every p.y)))
    (mulf (plane v 2 (by decide)) (every p.z))) (every t)

/-- The moved positions, laid out as the result. -/
def placed (v : Vec F S48x3x16x124 .f32) (g : Rig F) : FVec F S1984x144 .f32 :=
  transpose S1984x144 [1, 0] (shapeCast S144x1984 (transpose S16x3x3x124x16 [3, 1, 2, 4, 0]
    (shapeCast S16x3x3x16x124 (concatenate S48x3x16x124 1
      [⟨S48x1x16x124, shapeCast S48x1x16x124 (moved v g.r.x g.t.x) (by decide)⟩,
       ⟨S48x1x16x124, shapeCast S48x1x16x124 (moved v g.r.y g.t.y) (by decide)⟩,
       ⟨S48x1x16x124, shapeCast S48x1x16x124 (moved v g.r.z g.t.z) (by decide)⟩]
      Gen.concatenates_S48x1x16x124_S48x1x16x124_S48x1x16x124_S48x3x16x124_d1)
      Gen.shapeCasts_S48x3x16x124_S16x3x3x16x124) Gen.transposes_S16x3x3x16x124_p3_1_2_4_0_S16x3x3x124x16)
      Gen.shapeCasts_S16x3x3x124x16_S144x1984) Gen.transposes_S144x1984_p1_0_S1984x144

/-! ### Tokens and emissions -/

/-- Where the window of a sequence's tokens starts. -/
def windowStart (s : BitVec 32) : BitVec 32 :=
  Scalar.muli (Scalar.divsi (Scalar.maxsi (Scalar.minsi s 14208#32) 0#32) 128#32) 128#32

/-- A sequence's tokens, zero past its end. -/
def tokRow (s e : BitVec 32) (w : IVec S1x2176 32) : IVec S1x1984 32 :=
  select (cmpi .slt (iota .tc S1x1984 32 [1] (by decide)) (broadcast S1x1984 (Scalar.subi e s)))
    (extractStridedSlice S1x1984 ![0, 0]
      (dynamicRotate 1 (Scalar.remsi (Scalar.subi 2176#32 (Scalar.subi s (windowStart s))) 2176#32) none
        (shapeCast S1x2176 w (by decide)) (by decide)) (by decide))
    (broadcast S1x1984 0#32)

section Reads

variable (arg0 : Memref sig .tc .smem S17 .i32) (h0 : arg0.IsWhole) (arg1 : Memref sig .tc .smem S21x3 .f32) (h1 : arg1.IsWhole)
  (arg2 : Memref sig .tc .smem S1x3 .f32) (h2 : arg2.IsWhole) (arg3 : Memref sig .tc .vmem S1x16384 .i32) (h3 : arg3.IsWhole)
  (x0 : Vec F S17 .i32) (x1 : Vec F S21x3 .f32) (x2 : Vec F S1x3 .f32) (x3 : Vec F S1x16384 .i32)

/-- One offset of the list of offsets. -/
def cuAt (j : ℕ) (hj : j < 17) : BitVec 32 :=
  arg0.view.readAt (Elt F) (Rect.unit (s := S17) ![j] S1.size
    (fun a => by fin_cases a; simp [S1, S17]; omega)).toLoadRect (h0.unread x0) (Shape.Idx.first (by show 0 < S1.numel; decide))

/-- One weight. -/
def wAt (a k : ℕ) (ha : a < 21) (hk : k < 3) : F .f32 :=
  arg1.view.readAt (Elt F) (Rect.unit (s := S21x3) ![a, k] S1x1.size
    (fun i => by fin_cases i <;> simp [S1x1, S21x3] <;> omega)).toLoadRect (h1.unread x1) (Shape.Idx.first (by show 0 < S1x1.numel; decide))

/-- One bias. -/
def biasAt (k : ℕ) (hk : k < 3) : F .f32 :=
  arg2.view.readAt (Elt F) (Rect.unit (s := S1x3) ![0, k] S1x1.size
    (fun i => by fin_cases i <;> simp [S1x1, S1x3]; omega)).toLoadRect (h2.unread x2) (Shape.Idx.first (by show 0 < S1x1.numel; decide))

/-- The window of tokens a sequence is read from. -/
def windowAt (s : BitVec 32) : IVec S1x2176 32 :=
  arg3.view.readAt (Elt F) (Rect.unit (s := S1x16384) (k0_off1 s) S1x2176.size (Gen.k0_chk1_all s)).toLoadRect (h3.unread x3)

/-- All the sequences' tokens, in the layout of the chunks. -/
def tok : IVec S16x16x124 32 :=
  transpose S16x16x124 [1, 0, 2] (transpose S16x16x124 [0, 2, 1] (shapeCast S16x124x16
    (concatenate S16x1984 0 (List.ofFn fun n : Fin 16 => (⟨S1x1984,
      tokRow (cuAt arg0 h0 x0 n.val (by omega)) (cuAt arg0 h0 x0 (n.val + 1) (by omega))
        (windowAt arg3 h3 x3 (cuAt arg0 h0 x0 n.val (by omega)))⟩ : (s : Shape) × (s.Idx → BitVec 32)))
      Gen.concatenates_S1x1984_S1x1984_S1x1984_S1x1984_S1x1984_S1x1984_S1x1984_S1x1984_S1x1984_S1x1984_S1x1984_S1x1984_S1x1984_S1x1984_S1x1984_S1x1984_S16x1984_d0)
      Gen.shapeCasts_S16x1984_S16x124x16) Gen.transposes_S16x124x16_p0_2_1_S16x16x124) Gen.transposes_S16x16x124_p1_0_2_S16x16x124

/-- The sum over the first `n` kinds of token of the weight of each kind where the token is of that kind. -/
def acc (t : IVec S16x16x124 32) (k : ℕ) (hk : k < 3) : (n : ℕ) → n ≤ 21 → Vr F
  | 0, _ => broadcast S16x16x124 (lit 0x00000000#32)
  | n + 1, h =>
    addf (acc t k hk n (Nat.le_of_succ_le h)) (select (cmpi .eq t (broadcast S16x16x124 (BitVec.ofNat 32 n)))
      (broadcast S16x16x124 (wAt arg1 h1 x1 n k h hk)) (broadcast S16x16x124 (lit 0x00000000#32)))

/-- The torsion angles of one kind. -/
def angle (t : IVec S16x16x124 32) (k : ℕ) (hk : k < 3) : Vr F :=
  mulf (broadcast S16x16x124 (lit 0x40490FDB#32))
    (tanh (addf (acc arg1 h1 x1 t k hk 21 (le_refl 21)) (broadcast S16x16x124 (biasAt arg2 h2 x2 k hk))))

end Reads

/-- The angles, laid out as the result. -/
def laid (e : Tri (Vr F)) : FVec F S1984x48 .f32 :=
  transpose S1984x48 [1, 0] (shapeCast S48x1984 (transpose S16x3x124x16 [2, 1, 3, 0]
    (concatenate S16x3x16x124 1
      [⟨S16x1x16x124, shapeCast S16x1x16x124 e.x (by decide)⟩, ⟨S16x1x16x124, shapeCast S16x1x16x124 e.y (by decide)⟩,
       ⟨S16x1x16x124, shapeCast S16x1x16x124 e.z (by decide)⟩]
      Gen.concatenates_S16x1x16x124_S16x1x16x124_S16x1x16x124_S16x3x16x124_d1)
      Gen.transposes_S16x3x16x124_p2_1_3_0_S16x3x124x16) Gen.shapeCasts_S16x3x124x16_S48x1984) Gen.transposes_S48x1984_p1_0_S1984x48

/-- The bond's other two components' common factor, by kind of atom. -/
def bondS : Tri (F .f32) := ⟨lit 0x3F9EC9C7#32, lit 0x3FB5BCBD#32, lit 0x3F982E32#32⟩

/-- The bond's second component. -/
def bondY (e : Tri (Vr F)) : Tri (Vr F) :=
  ⟨mulf (broadcast S16x16x124 bondS.x) (cos e.x), mulf (broadcast S16x16x124 bondS.y) (cos e.y),
   mulf (broadcast S16x16x124 bondS.z) (cos e.z)⟩

/-- The bond's third component. -/
def bondZ (e : Tri (Vr F)) : Tri (Vr F) :=
  ⟨mulf (broadcast S16x16x124 bondS.x) (sin e.x), mulf (broadcast S16x16x124 bondS.y) (sin e.y),
   mulf (broadcast S16x16x124 bondS.z) (sin e.z)⟩

end Cert.Model
-- ==== Proof.Rigid.lean ====
/- Rigid motions of space over the reals: the algebra behind both the sequential chain of the reference and the
   chunked chain of the kernel. Nothing here mentions a program. -/
module

public import Idealize.ShloMosaic.PureOps.Ideal
public import Mathlib.Tactic.LinearCombination
public import Mathlib.Tactic.Positivity
public import Mathlib.Tactic.Ring
public import Mathlib.Tactic.FieldSimp

@[expose] public section

noncomputable section

namespace Cert.Chain

/-- A vector of space. -/
@[ext] structure V3 where
  x : ℝ
  y : ℝ
  z : ℝ

namespace V3

/-- The inner product. -/
def dot (v w : V3) : ℝ := v.x * w.x + v.y * w.y + v.z * w.z
/-- The cross product. -/
def cross (v w : V3) : V3 := ⟨v.y * w.z - v.z * w.y, v.z * w.x - v.x * w.z, v.x * w.y - v.y * w.x⟩
/-- The difference. -/
def sub (v w : V3) : V3 := ⟨v.x - w.x, v.y - w.y, v.z - w.z⟩
/-- A multiple. -/
def smul (r : ℝ) (v : V3) : V3 := ⟨r * v.x, r * v.y, r * v.z⟩

end V3

/-- An affine motion: three columns and a translation. -/
@[ext] structure Mot where
  u : V3
  m : V3
  n : V3
  t : V3

namespace Mot

/-- The linear part applied to a vector. -/
def lin (A : Mot) (v : V3) : V3 :=
  ⟨A.u.x * v.x + A.m.x * v.y + A.n.x * v.z, A.u.y * v.x + A.m.y * v.y + A.n.y * v.z, A.u.z * v.x + A.m.z * v.y + A.n.z * v.z⟩

/-- The motion applied to a point. -/
def app (A : Mot) (v : V3) : V3 := ⟨(A.lin v).x + A.t.x, (A.lin v).y + A.t.y, (A.lin v).z + A.t.z⟩

/-- Composition of motions. -/
instance : Mul Mot := ⟨fun A B => ⟨A.lin B.u, A.lin B.m, A.lin B.n, A.app B.t⟩⟩
/-- The motion that moves nothing. -/
instance : One Mot := ⟨⟨⟨1, 0, 0⟩, ⟨0, 1, 0⟩, ⟨0, 0, 1⟩, ⟨0, 0, 0⟩⟩⟩

/-- The product of two motions, spelled out. -/
theorem mul_def (A B : Mot) : A * B = ⟨A.lin B.u, A.lin B.m, A.lin B.n, A.app B.t⟩ := rfl
/-- The identity, spelled out. -/
theorem one_def : (1 : Mot) = ⟨⟨1, 0, 0⟩, ⟨0, 1, 0⟩, ⟨0, 0, 1⟩, ⟨0, 0, 0⟩⟩ := rfl

/-- Motions compose associatively, with the identity. -/
instance : Monoid Mot where
  mul_assoc A B C := by
    simp only [mul_def, lin, app]
    ext <;> simp only [] <;> ring
  one_mul A := by
    simp only [mul_def, one_def, lin, app]
    ext <;> simp
  mul_one A := by
    simp only [mul_def, one_def, lin, app]
    ext <;> simp

/-- The columns are a right-handed orthonormal frame. -/
structure Frame (A : Mot) : Prop where
  uu : A.u.dot A.u = 1
  nn : A.n.dot A.n = 1
  un : A.u.dot A.n = 0
  hm : A.m = A.n.cross A.u

/-- The identity is a frame. -/
theorem Frame.one : Frame 1 := by
  constructor <;> simp [one_def, V3.dot, V3.cross]

/-- A frame's linear part keeps inner products. -/
theorem Frame.dot {A : Mot} (h : Frame A) (v w : V3) : (A.lin v).dot (A.lin w) = v.dot w := by
  obtain ⟨uu, nn, un, hm⟩ := h
  obtain ⟨u, m, n, t⟩ := A
  simp only at hm; subst hm
  simp only [V3.dot, V3.cross, lin] at *
  have mm : (n.y * u.z - n.z * u.y) ^ 2 + (n.z * u.x - n.x * u.z) ^ 2 + (n.x * u.y - n.y * u.x) ^ 2 = 1 := by
    linear_combination (n.x * n.x + n.y * n.y + n.z * n.z) * uu + nn - (u.x * n.x + u.y * n.y + u.z * n.z) * un
  linear_combination (v.x * w.x) * uu + (v.y * w.y) * mm + (v.z * w.z) * nn + (v.x * w.z + v.z * w.x) * un

/-- A frame's linear part keeps cross products. -/
theorem Frame.cross {A : Mot} (h : Frame A) (v w : V3) : (A.lin v).cross (A.lin w) = A.lin (v.cross w) := by
  obtain ⟨uu, nn, un, hm⟩ := h
  obtain ⟨u, m, n, t⟩ := A
  simp only at hm; subst hm
  simp only [V3.dot, V3.cross, lin] at *
  ext <;> simp only []
  · linear_combination (v.x * w.y - v.y * w.x) * (n.x * uu - u.x * un) + (v.y * w.z - v.z * w.y) * (u.x * nn - n.x * un)
  · linear_combination (v.x * w.y - v.y * w.x) * (n.y * uu - u.y * un) + (v.y * w.z - v.z * w.y) * (u.y * nn - n.y * un)
  · linear_combination (v.x * w.y - v.y * w.x) * (n.z * uu - u.z * un) + (v.y * w.z - v.z * w.y) * (u.z * nn - n.z * un)

/-- Frames compose. -/
theorem Frame.mul {A B : Mot} (hA : Frame A) (hB : Frame B) : Frame (A * B) where
  uu := by rw [mul_def]; exact (hA.dot _ _).trans hB.uu
  nn := by rw [mul_def]; exact (hA.dot _ _).trans hB.nn
  un := by rw [mul_def]; exact (hA.dot _ _).trans hB.un
  hm := by rw [mul_def]; simp only []; rw [hA.cross, hB.hm]

end Mot

/-- A bond of the chain: the offset along the last bond, and the radius and angle across it. -/
structure Bond where
  x : ℝ
  s : ℝ
  φ : ℝ

namespace Bond

/-- The next atom in the frame of the last one. -/
def pos (e : Bond) : V3 := ⟨e.x, e.s * Real.cos e.φ, e.s * Real.sin e.φ⟩
/-- The bond's length. -/
def len (e : Bond) : ℝ := Real.sqrt (e.x ^ 2 + e.s ^ 2)

/-- The motion one bond makes. -/
def mot (e : Bond) : Mot where
  u := e.pos.smul (e.len)⁻¹
  n := ⟨0, -Real.sin e.φ, Real.cos e.φ⟩
  m := V3.cross ⟨0, -Real.sin e.φ, Real.cos e.φ⟩ (e.pos.smul (e.len)⁻¹)
  t := e.pos

/-- A bond that leaves the line has a positive length. -/
theorem len_pos {e : Bond} (h : 0 < e.s) : 0 < e.len := Real.sqrt_pos.mpr (by positivity)

/-- One bond's motion is a frame. -/
theorem frame {e : Bond} (h : 0 < e.s) : e.mot.Frame where
  uu := by
    have hl := len_pos h
    have h2 : e.len ^ 2 = e.x ^ 2 + e.s ^ 2 := Real.sq_sqrt (by positivity)
    have hc := Real.sin_sq_add_cos_sq e.φ
    simp only [mot, pos, V3.dot, V3.smul]
    field_simp
    rw [h2]
    linear_combination e.s ^ 2 * hc
  nn := by
    have hc := Real.sin_sq_add_cos_sq e.φ
    simp only [mot, V3.dot]
    linear_combination hc
  un := by simp only [mot, pos, V3.dot, V3.smul]; ring
  hm := rfl

end Bond

/-- The last three atoms `a`, `b`, `c` stand for the motion `G`: `c` is its origin, the last bond points along its first
    column, and the plane of the three has its third column as normal. -/
structure Rep (a b c : V3) (G : Mot) : Prop where
  frame : G.Frame
  hc : c = G.t
  hu : ∃ β : ℝ, 0 < β ∧ c.sub b = G.u.smul β
  hn : ∃ γ : ℝ, 0 < γ ∧ (b.sub a).cross G.u = G.n.smul γ

/-- The canonical first three atoms stand for the identity. -/
theorem Rep.start : Rep ⟨-2, 1, 0⟩ ⟨-1, 0, 0⟩ ⟨0, 0, 0⟩ 1 where
  frame := .one
  hc := rfl
  hu := ⟨1, one_pos, by simp [Mot.one_def, V3.sub, V3.smul]⟩
  hn := ⟨1, one_pos, by simp [Mot.one_def, V3.sub, V3.smul, V3.cross]⟩

/-- The squared length of the last bond. -/
theorem Rep.usq {a b c : V3} {G : Mot} (h : Rep a b c G) : 0 < (c.sub b).dot (c.sub b) ∧ (c.sub b).smul (Real.sqrt ((c.sub b).dot (c.sub b)))⁻¹ = G.u := by
  obtain ⟨β, hβ, e⟩ := h.hu
  have h1 : (c.sub b).dot (c.sub b) = β ^ 2 := by
    rw [e]; have := h.frame.uu; simp only [V3.dot, V3.smul] at *; linear_combination β ^ 2 * this
  rw [h1, Real.sqrt_sq hβ.le, e]
  refine ⟨by positivity, ?_⟩
  simp only [V3.smul]
  ext <;> simp only [] <;> field_simp

/-- The squared length of the plane's normal. -/
theorem Rep.nsq {a b c : V3} {G : Mot} (h : Rep a b c G) : 0 < ((b.sub a).cross G.u).dot ((b.sub a).cross G.u)
    ∧ ((b.sub a).cross G.u).smul (Real.sqrt (((b.sub a).cross G.u).dot ((b.sub a).cross G.u)))⁻¹ = G.n := by
  obtain ⟨β, hβ, e⟩ := h.hn
  have h1 : ((b.sub a).cross G.u).dot ((b.sub a).cross G.u) = β ^ 2 := by
    rw [e]; have := h.frame.nn; simp only [V3.dot, V3.smul] at *; linear_combination β ^ 2 * this
  rw [h1, Real.sqrt_sq hβ.le, e]
  refine ⟨by positivity, ?_⟩
  simp only [V3.smul]
  ext <;> simp only [] <;> field_simp

/-- Placing one more atom: the last three stand for the motion composed with the bond's. -/
theorem Rep.step {a b c : V3} {G : Mot} (h : Rep a b c G) {e : Bond} (hs : 0 < e.s) : Rep b c (G.app e.pos) (G * e.mot) where
  frame := h.frame.mul (Bond.frame hs)
  hc := rfl
  hu := by
    have hl := Bond.len_pos hs
    refine ⟨e.len, hl, ?_⟩
    rw [h.hc]
    simp only [Mot.mul_def, Mot.app, Mot.lin, Bond.mot, V3.sub, V3.smul]
    ext <;> simp only [] <;> field_simp <;> ring
  hn := by
    have hl := Bond.len_pos hs
    obtain ⟨β, hβ, hb⟩ := h.hu
    refine ⟨β * (e.s / e.len), by positivity, ?_⟩
    have h1 : c.sub b = G.lin ⟨β, 0, 0⟩ := by
      rw [hb]; simp only [V3.smul, Mot.lin]; ext <;> simp only [] <;> ring
    rw [h1, Mot.mul_def]
    simp only []
    rw [h.frame.cross]
    simp only [Mot.lin, Bond.mot, Bond.pos, V3.smul, V3.cross]
    ext <;> simp only [] <;> field_simp <;> ring

/-- The motion of `n` bonds in order, from bond `k` on. -/
def run (e : ℕ → Bond) (k : ℕ) : ℕ → Mot
  | 0 => 1
  | n + 1 => run e k n * (e (k + n)).mot

/-- A run of bonds is a run after a run. -/
theorem run_add (e : ℕ → Bond) (k n : ℕ) : ∀ j, run e k n * run e (k + n) j = run e k (n + j)
  | 0 => mul_one _
  | j + 1 => by rw [run, ← mul_assoc, run_add e k n j, ← Nat.add_assoc, run, Nat.add_assoc k n j]

/-- The first `k` of a sequence of motions composed. -/
def pre (T : ℕ → Mot) : ℕ → Mot
  | 0 => 1
  | k + 1 => pre T k * T k

/-- Chunks of `w` bonds composed are the run of all their bonds. -/
theorem pre_run (e : ℕ → Bond) (w : ℕ) : ∀ k, pre (fun f => run e (w * f) w) k = run e 0 (w * k)
  | 0 => rfl
  | k + 1 => by
    rw [pre, pre_run e w k]
    have := run_add e 0 (w * k) w
    rw [Nat.zero_add] at this
    rw [this, Nat.mul_succ]

/-- One level of the doubling scan: each entry composed with the one `d` before it. -/
def level (d : ℕ) (W : ℕ → Mot) (f : ℕ) : Mot := (if d ≤ f then W (f - d) else 1) * W f

/-- A scan level doubles the window of every entry. -/
theorem level_window {T W : ℕ → Mot} {d : ℕ} (h : ∀ f, pre T (f + 1 - d) * W f = pre T (f + 1)) (f : ℕ) :
    pre T (f + 1 - 2 * d) * level d W f = pre T (f + 1) := by
  unfold level
  split_ifs with hd
  · have h1 := h (f - d)
    rw [show f - d + 1 - d = f + 1 - 2 * d by omega, show f - d + 1 = f + 1 - d by omega] at h1
    rw [← mul_assoc, h1, h f]
  · have h1 := h f
    rw [show f + 1 - d = 0 by omega] at h1
    rw [show f + 1 - 2 * d = 0 by omega, one_mul, h1]

/-- The levels `2 ^ 0`, …, `2 ^ (k - 1)` of the scan. -/
def scan (T : ℕ → Mot) : ℕ → ℕ → Mot
  | 0 => T
  | k + 1 => level (2 ^ k) (scan T k)

/-- After `k` levels every entry holds its window of `2 ^ k`. -/
theorem scan_window (T : ℕ → Mot) : ∀ k f, pre T (f + 1 - 2 ^ k) * scan T k f = pre T (f + 1)
  | 0, f => by simp [scan, pre]
  | k + 1, f => by
    rw [scan, Nat.pow_succ, Nat.mul_comm]
    exact level_window (scan_window T k) f

/-- After enough levels every entry holds its whole prefix. -/
theorem scan_all (T : ℕ → Mot) {k f : ℕ} (h : f < 2 ^ k) : scan T k f = pre T (f + 1) := by
  have h1 := scan_window T k f
  rw [show f + 1 - 2 ^ k = 0 by omega] at h1
  rwa [pre, one_mul] at h1

end Cert.Chain

end
-- ==== Proof.KernelReal.lean ====
/- The kernel's chain of atoms and its scan over chunks, over the extended reals, are the motions of `Rigid`. -/
module

public import proofs.«01_k».proof.Proof.Model
public import proofs.«01_k».proof.Proof.Rigid
public import Idealize.ShloMosaic.Lib.Pointwise.Tactic
public import Idealize.ShloMosaic.Lib.Pointwise

@[expose] public section

noncomputable section

namespace Cert.Model

open Idealize.ShloMosaic Cert.KernelIdeal Cert.Chain

variable (j : S16x124.Idx)

/-- Three arrays hold the coordinates of a vector at one index. -/
structure At3 (p : Tri (Vc Ideal)) (v : V3) : Prop where
  x : p.x j = ((v.x : ℝ) : EReal)
  y : p.y j = ((v.y : ℝ) : EReal)
  z : p.z j = ((v.z : ℝ) : EReal)

variable {j}

/-- A difference of real triples. -/
theorem At3.sub {p q : Tri (Vc Ideal)} {v w : V3} (hp : At3 j p v) (hq : At3 j q w) : At3 j (sub3 p q) (v.sub w) := by
  constructor <;> simp only [sub3, V3.sub] <;> pointwise <;> simp only [hp.x, hp.y, hp.z, hq.x, hq.y, hq.z] <;> norm_cast

/-- A cross product of real triples. -/
theorem At3.cross {p q : Tri (Vc Ideal)} {v w : V3} (hp : At3 j p v) (hq : At3 j q w) : At3 j (cross3 p q) (v.cross w) := by
  constructor <;> simp only [cross3, V3.cross] <;> pointwise <;> simp only [hp.x, hp.y, hp.z, hq.x, hq.y, hq.z] <;> norm_cast

/-- One over the length of a vector that is not zero. -/
theorem At3.inv {p : Tri (Vc Ideal)} {v : V3} (hp : At3 j p v) (h : 0 < v.dot v) :
    inv3 p j = (((Real.sqrt (v.dot v))⁻¹ : ℝ) : EReal) := by
  have e : inv3 p j = Ideal.rsqrt (((v.dot v : ℝ)) : EReal) := by
    simp only [inv3, V3.dot]; pointwise; simp only [hp.x, hp.y, hp.z]; norm_cast
  rw [e, Ideal.rsqrt_coe, if_neg (not_lt.mpr h.le), if_neg h.ne']

/-- A real triple of positive length scaled to length one. -/
theorem At3.unit {p : Tri (Vc Ideal)} {v : V3} (hp : At3 j p v) (h : 0 < v.dot v) :
    At3 j (unit3 p) (v.smul (Real.sqrt (v.dot v))⁻¹) := by
  constructor <;> simp only [unit3, V3.smul] <;> pointwise <;> simp only [hp.x, hp.y, hp.z, hp.inv h] <;> norm_cast <;> ring

/-- The last three atoms at one index stand for a motion. -/
structure AtomsAt (j : S16x124.Idx) (s : Atoms Ideal) (G : Mot) : Prop where
  ex : ∃ a b : V3, At3 j s.a a ∧ At3 j s.b b ∧ At3 j s.c G.t ∧ Rep a b G.t G

/-- The last atom is where the frame stands. -/
theorem AtomsAt.c {s : Atoms Ideal} {G : Mot} (h : AtomsAt j s G) : At3 j s.c G.t := by
  obtain ⟨a, b, -, -, hc, -⟩ := h; exact hc

/-- The first axis of the frame. -/
theorem AtomsAt.u {s : Atoms Ideal} {G : Mot} (h : AtomsAt j s G) : At3 j s.u G.u := by
  obtain ⟨a, b, ha, hb, hc, hr⟩ := h
  have := (hc.sub hb).unit hr.usq.1
  rwa [hr.usq.2] at this

/-- The third axis of the frame. -/
theorem AtomsAt.n {s : Atoms Ideal} {G : Mot} (h : AtomsAt j s G) : At3 j s.n G.n := by
  have hu := h.u
  obtain ⟨a, b, ha, hb, hc, hr⟩ := h
  have := ((hb.sub ha).cross hu).unit hr.nsq.1
  rwa [hr.nsq.2] at this

/-- The second axis of the frame. -/
theorem AtomsAt.m {s : Atoms Ideal} {G : Mot} (h : AtomsAt j s G) : At3 j s.m G.m := by
  have hn := h.n.cross h.u
  obtain ⟨a, b, ha, hb, hc, hr⟩ := h
  rwa [← hr.frame.hm] at hn

/-- One step places one more atom. -/
theorem AtomsAt.step {s : Atoms Ideal} {G : Mot} (h : AtomsAt j s G) {e : Bond} (hs : 0 < e.s) {k : Ideal .f32} {dy dz : Vc Ideal}
    (hk : k = ((e.x : ℝ) : EReal)) (hy : dy j = ((e.s * Real.cos e.φ : ℝ) : EReal)) (hz : dz j = ((e.s * Real.sin e.φ : ℝ) : EReal)) :
    AtomsAt j (s.step k dy dz) (G * e.mot) := by
  have hu := h.u
  have hn := h.n
  have hm := h.m
  obtain ⟨a, b, ha, hb, hc, hr⟩ := h
  refine ⟨b, G.t, hb, hc, ?_, hr.step hs⟩
  rw [show (G * e.mot).t = G.app e.pos from rfl]
  constructor <;> simp only [Atoms.step, Atoms.next, Mot.app, Mot.lin, Bond.pos] <;> pointwise <;>
    simp only [hu.x, hu.y, hu.z, hn.x, hn.y, hn.z, hm.x, hm.y, hm.z, hc.x, hc.y, hc.z, hk, hy, hz] <;> norm_cast <;> ring

/-! ### Constants -/

/-- The number a constant of the program stands for. -/
def num (w : BitVec 32) : ℝ := (Ideal.ofBits .f32 w).toReal

/-- A pattern that is neither a zero, nor tiny, nor infinite, with a plus sign, stands for a positive number. -/
theorem num_pos (w : BitVec 32) (hs : (w.extractLsb' 31 1 == 1#1) = false) (h1 : (w.extractLsb' 23 8).toNat ≠ 255)
    (h0 : (w.extractLsb' 23 8).toNat ≠ 0) : Ideal.ofBits .f32 w = ((num w : ℝ) : EReal) ∧ 0 < num w := by
  have e : Ideal.ofBits .f32 w = (((((2 ^ 23 + (w.extractLsb' 0 23).toNat : ℕ) : ℝ)
      * (2 : ℝ) ^ (((w.extractLsb' 23 8).toNat : ℤ) - (2 ^ (8 - 1) - 1) - (23 : ℕ))) : ℝ) : EReal) := by
    have hs' : (w.extractLsb' (8 + 23) 1 == 1#1) = false := hs
    simp only [Ideal.ofBits, Ideal.ieee, hs', if_neg h0]
    rw [if_neg (by simpa using h1)]
    simp
  refine ⟨by rw [num, e, EReal.toReal_coe], ?_⟩
  rw [num, e, EReal.toReal_coe]
  positivity

/-- The offset along the last bond, by kind of atom. -/
def along (k : ℕ) : ℝ := num (pick ⟨0x3F441C43#32, 0x3F0D1044#32, 0x3F15BC9A#32⟩ k)
/-- The radius about the last bond, by kind of atom. -/
def around (k : ℕ) : ℝ := num (pick ⟨0x3F9EC9C7#32, 0x3FB5BCBD#32, 0x3F982E32#32⟩ k)

/-- Every bond leaves the line of the bond before it. -/
theorem around_pos (k : ℕ) : 0 < around k := by
  unfold around pick; split
  · exact (num_pos 0x3F9EC9C7#32 (by decide) (by decide) (by decide)).2
  · exact (num_pos 0x3FB5BCBD#32 (by decide) (by decide) (by decide)).2
  · exact (num_pos 0x3F982E32#32 (by decide) (by decide) (by decide)).2

/-- The constants along the bond are the chain's. -/
theorem bondX_at (k : ℕ) : (pick bondX k : Ideal .f32) = ((along k : ℝ) : EReal) := by
  unfold along pick; split
  · exact (num_pos 0x3F441C43#32 (by decide) (by decide) (by decide)).1
  · exact (num_pos 0x3F0D1044#32 (by decide) (by decide) (by decide)).1
  · exact (num_pos 0x3F15BC9A#32 (by decide) (by decide) (by decide)).1

/-- The constants across the bond are the chain's. -/
theorem bondS_at (k : ℕ) : (pick bondS k : Ideal .f32) = ((around k : ℝ) : EReal) := by
  unfold around pick; split
  · exact (num_pos 0x3F9EC9C7#32 (by decide) (by decide) (by decide)).1
  · exact (num_pos 0x3FB5BCBD#32 (by decide) (by decide) (by decide)).1
  · exact (num_pos 0x3F982E32#32 (by decide) (by decide) (by decide)).1

/-- The bonds of a chain with given torsion angles. -/
def bonds (θ : ℕ → ℕ → ℝ) (s : ℕ) : Bond := ⟨along (s % 3), around (s % 3), θ (s / 3) (s % 3)⟩

/-- The word of minus two. -/
theorem ofBits_neg_two : Ideal.ofBits .f32 0xC0000000#32 = ((-2 : ℝ) : EReal) := by
  simp [Ideal.ofBits, Ideal.ieee, -EReal.coe_mul, -EReal.coe_neg]; norm_num

/-- The word of minus one. -/
theorem ofBits_neg_one : Ideal.ofBits .f32 0xBF800000#32 = ((-1 : ℝ) : EReal) := by
  simp [Ideal.ofBits, Ideal.ieee, -EReal.coe_mul, -EReal.coe_neg]; norm_num

/-- The three starting atoms have the identity as their frame. -/
theorem start_at (j : S16x124.Idx) : AtomsAt j start 1 := by
  refine ⟨_, _, ?_, ?_, ?_, Rep.start⟩ <;> constructor <;> simp only [start, full, lit, Mot.one_def] <;> pointwise <;>
    first | exact ofBits_neg_two | exact ofBits_neg_one | exact Ideal.ofBits_one_f32 | exact Ideal.ofBits_zero_f32 | simp

/-! ### The chain of one chunk -/

/-- One row of residues, entry by entry. -/
theorem row_apply (v : Vr Ideal) (r : ℕ) (hr : r < 16) (b : Fin 16) (f : Fin 124) : row v r hr (ix2 b f) = v (ix3 ⟨r, hr⟩ b f) := by
  unfold row
  exact (shapeCast_dropUnit_apply ![16, 124] _ _ _).trans
    (extractStridedSlice_apply _ _ _ _ _ (fun a => by fin_cases a <;> simp [ix3, ix2] <;> rfl))

/-- The offset along the second axis. -/
theorem pick_bondY (e : Tri (Vr Ideal)) (k : ℕ) (i : S16x16x124.Idx) : pick (bondY e) k i = pick bondS k * Ideal.cos (pick e k i) := by
  unfold pick bondY; split <;> pointwise

/-- The offset along the third axis. -/
theorem pick_bondZ (e : Tri (Vr Ideal)) (k : ℕ) (i : S16x16x124.Idx) : pick (bondZ e) k i = pick bondS k * Ideal.sin (pick e k i) := by
  unfold pick bondZ; split <;> pointwise

variable {e : Tri (Vr Ideal)} {b : Fin 16} {f : Fin 124} {θ : ℕ → ℕ → ℝ}

/-- The chain of chunk `f` after `n` steps stands for the motion of its first `n` bonds. -/
theorem chain_at (he : ∀ (r : Fin 16) (k : ℕ), k < 3 → pick e k (ix3 r b f) = ((θ (16 * f.val + r.val) k : ℝ) : EReal)) :
    ∀ (n : ℕ) (h : n ≤ 48), AtomsAt (ix2 b f) (chain (bondY e) (bondZ e) n h) (run (bonds θ) (48 * f.val) n)
  | 0, _ => start_at _
  | n + 1, h => by
    have hq := he ⟨n / 3, by omega⟩ (n % 3) (by omega)
    have h1 : (48 * f.val + n) % 3 = n % 3 := by omega
    have h2 : (48 * f.val + n) / 3 = 16 * f.val + n / 3 := by omega
    refine (chain_at he n (Nat.le_of_succ_le h)).step (e := bonds θ (48 * f.val + n)) (around_pos _) ?_ ?_ ?_
    · rw [bondX_at, bonds, h1]
    · rw [row_apply, pick_bondY, hq, bondS_at, Ideal.cos_coe, ← EReal.coe_mul, bonds, h1, h2]
    · rw [row_apply, pick_bondZ, hq, bondS_at, Ideal.sin_coe, ← EReal.coe_mul, bonds, h1, h2]

/-! ### The scan -/

/-- The arrays of a motion hold a motion at one index. -/
structure RigAt (j : S16x124.Idx) (g : Rig Ideal) (G : Mot) : Prop where
  x : At3 j g.r.x ⟨G.u.x, G.m.x, G.n.x⟩
  y : At3 j g.r.y ⟨G.u.y, G.m.y, G.n.y⟩
  z : At3 j g.r.z ⟨G.u.z, G.m.z, G.n.z⟩
  t : At3 j g.t G.t

/-- The motion read off the last three atoms is their frame. -/
theorem AtomsAt.rig {s : Atoms Ideal} {G : Mot} (h : AtomsAt j s G) : RigAt j s.rig G :=
  ⟨⟨h.u.x, h.m.x, h.n.x⟩, ⟨h.u.y, h.m.y, h.n.y⟩, ⟨h.u.z, h.m.z, h.n.z⟩, h.c⟩

/-- The composed motions are the product. -/
theorem RigAt.comp {g h : Rig Ideal} {G H : Mot} (hg : RigAt j g G) (hh : RigAt j h H) : RigAt j (g.comp h) (G * H) := by
  constructor <;> constructor <;> simp only [Rig.comp, row3, dot3, Mot.mul_def, Mot.app, Mot.lin] <;> pointwise <;>
    simp only [hg.x.x, hg.x.y, hg.x.z, hg.y.x, hg.y.y, hg.y.z, hg.z.x, hg.z.y, hg.z.z, hg.t.x, hg.t.y, hg.t.z,
      hh.x.x, hh.x.y, hh.x.z, hh.y.x, hh.y.y, hh.y.z, hh.z.x, hh.z.y, hh.z.z, hh.t.x, hh.t.y, hh.t.z] <;> norm_cast

/-- A shifted row begins with the fill. -/
theorem shift_of_lt (d : ℕ) (hd : d < 124) (w : BitVec 32) (v : Vc Ideal) (b : Fin 16) (f : Fin 124) (h : f.val < d) :
    shift d hd w v (ix2 b f) = Ideal.ofBits .f32 w := by
  unfold shift
  exact concatenate_pair_apply_left (t := S16x124) (s₁ := ⟨2, ![16, d]⟩) (s₂ := ⟨2, ![16, 124 - d]⟩) 1 _ _ _ (ix2 b f) rfl
    (ix2 b ⟨f.val, h⟩) (fun a => match a with | ⟨0, _⟩ => rfl | ⟨1, _⟩ => rfl)

/-- A shifted row goes on with the row. -/
theorem shift_of_ge (d : ℕ) (hd : d < 124) (w : BitVec 32) (v : Vc Ideal) (b : Fin 16) (f : Fin 124) (h : d ≤ f.val) :
    shift d hd w v (ix2 b f) = v (ix2 b ⟨f.val - d, by omega⟩) := by
  unfold shift
  refine (concatenate_pair_apply_right (t := S16x124) (s₁ := ⟨2, ![16, d]⟩) (s₂ := ⟨2, ![16, 124 - d]⟩) 1 _ _ _ (ix2 b f) rfl rfl
    (ix2 b ⟨f.val - d, by omega⟩) (fun a ha => ?_) ?_).trans
    (extractStridedSlice_apply _ _ _ _ (ix2 b ⟨f.val - d, by omega⟩) (fun a => ?_))
  · match a with
    | ⟨0, _⟩ => rfl
    | ⟨1, _⟩ => exact absurd rfl ha
  · show f.val - d + d = f.val
    omega
  · match a with
    | ⟨0, _⟩ => exact (Nat.zero_add _).symm
    | ⟨1, _⟩ => exact (Nat.zero_add _).symm

/-- The motions `d` chunks earlier. -/
theorem RigAt.shift {d : ℕ} (hd : d < 124) {g : Rig Ideal} {b : Fin 16} {G : ℕ → Mot}
    (h : ∀ f : Fin 124, RigAt (ix2 b f) g (G f.val)) (f : Fin 124) :
    RigAt (ix2 b f) (g.shift d hd) (if d ≤ f.val then G (f.val - d) else 1) := by
  by_cases hf : d ≤ f.val
  · rw [if_pos hf]
    have h' := h ⟨f.val - d, by omega⟩
    constructor <;> constructor <;> simp only [Rig.shift] <;> rw [shift_of_ge _ _ _ _ _ _ hf]
    exacts [h'.x.x, h'.x.y, h'.x.z, h'.y.x, h'.y.y, h'.y.z, h'.z.x, h'.z.y, h'.z.z, h'.t.x, h'.t.y, h'.t.z]
  · rw [if_neg hf]
    constructor <;> constructor <;> simp only [Rig.shift, Mot.one_def] <;> rw [shift_of_lt _ _ _ _ _ _ (not_le.mp hf)] <;>
      first
        | exact Ideal.ofBits_one_f32.trans EReal.coe_one.symm
        | exact Ideal.ofBits_zero_f32.trans EReal.coe_zero.symm

/-- After the seven doublings each fragment holds the product of all motions up to its own. -/
theorem scanned_at {g : Rig Ideal} {b : Fin 16} {T : ℕ → Mot} (h : ∀ f : Fin 124, RigAt (ix2 b f) g (T f.val)) :
    ∀ (k : ℕ) (hk : k ≤ 7) (f : Fin 124), RigAt (ix2 b f) (scanned g k hk) (scan T k f.val)
  | 0, _, f => h f
  | k + 1, hk, f =>
    (RigAt.shift (pow_lt k hk) (scanned_at h k (Nat.le_of_succ_le hk)) f).comp (scanned_at h k (Nat.le_of_succ_le hk) f)

/-- The motion that carries a chunk to its place is the product of the motions of the chunks before it. -/
theorem before_at {g : Rig Ideal} {b : Fin 16} {T : ℕ → Mot} (h : ∀ f : Fin 124, RigAt (ix2 b f) g (T f.val)) (f : Fin 124) :
    RigAt (ix2 b f) (before g) (pre T f.val) := by
  have := RigAt.shift (d := 1) (by decide) (scanned_at h 7 (le_refl 7)) f
  by_cases hf : 1 ≤ f.val
  · rw [if_pos hf, scan_all T (by have := f.isLt; norm_num; omega), Nat.sub_add_cancel hf] at this
    exact this
  · rw [if_neg hf] at this
    rw [show f.val = 0 by omega]
    exact this

/-- … which is the motion of all the bonds before the chunk. -/
theorem before_chain_at
    (he : ∀ (f : Fin 124) (r : Fin 16) (k : ℕ), k < 3 → pick e k (ix3 r b f) = ((θ (16 * f.val + r.val) k : ℝ) : EReal)) (f : Fin 124) :
    RigAt (ix2 b f) (before (chain (bondY e) (bondZ e) 48 (le_refl 48)).rig) (run (bonds θ) 0 (48 * f.val)) := by
  rw [← pre_run]
  exact before_at (fun f => (chain_at (he f) 48 (le_refl 48)).rig) f

end Cert.Model

end
-- ==== Proof.Spec.lean ====
/- What the three results are: the padded tokens, the torsion angles, the atoms of each chain, the lengths. -/
module

public import proofs.«01_k».proof.Proof.KernelReal

@[expose] public section

noncomputable section

namespace Cert.Spec

open Idealize.ShloMosaic

/-- The token of residue `l` of sequence `b`, zero past the end of the sequence. -/
def token (tk : Vec Ideal ⟨1, ![16384]⟩ .i32) (cu : Vec Ideal ⟨1, ![17]⟩ .i32) (b : Fin 16) (l : ℕ) : BitVec 32 :=
  if (BitVec.ofNat 32 l).slt (cu (ix1 (⟨b.val + 1, by omega⟩ : Fin 17)) - cu (ix1 (⟨b.val, by omega⟩ : Fin 17)))
  then tk (ix1 (⟨min ((cu (ix1 (⟨b.val, by omega⟩ : Fin 17))).toNat + l) 16383, by omega⟩ : Fin 16384))
  else 0#32

/-- The token where the two offsets are known. -/
theorem token_of (tk : Vec Ideal ⟨1, ![16384]⟩ .i32) (cu : Vec Ideal ⟨1, ![17]⟩ .i32) (b : Fin 16) (l S E : ℕ) (hS : S ≤ 16384)
    (eS : cu (ix1 (⟨b.val, by omega⟩ : Fin 17)) = BitVec.ofNat 32 S)
    (eE : cu (ix1 (⟨b.val + 1, by omega⟩ : Fin 17)) = BitVec.ofNat 32 E) :
    token tk cu b l = if (BitVec.ofNat 32 l).slt (BitVec.ofNat 32 E - BitVec.ofNat 32 S)
      then tk (ix1 (⟨min (S + l) 16383, by omega⟩ : Fin 16384)) else 0#32 := by
  have e : (BitVec.ofNat 32 S).toNat = S := by rw [BitVec.toNat_ofNat]; omega
  unfold token
  rw [eE]
  simp only [eS, e]

/-- The weight of a token, zero for no such token, and the bias. -/
def logit (W : Vec Ideal ⟨2, ![21, 3]⟩ .f32) (bias : Vec Ideal ⟨1, ![3]⟩ .f32) (t : BitVec 32) (k : Fin 3) : EReal :=
  (if h : t.toNat < 21 then (W (ix2 (⟨t.toNat, h⟩ : Fin 21) k) : EReal) else 0) + bias (ix1 k)

/-- The torsion angle of kind `k` at residue `l` of sequence `b`. -/
def theta (tk : Vec Ideal ⟨1, ![16384]⟩ .i32) (cu : Vec Ideal ⟨1, ![17]⟩ .i32) (W : Vec Ideal ⟨2, ![21, 3]⟩ .f32)
    (bias : Vec Ideal ⟨1, ![3]⟩ .f32) (b : Fin 16) (l k : ℕ) : ℝ :=
  Cert.Model.num 0x40490FDB#32 * (Ideal.tanh (logit W bias (token tk cu b l) ⟨k % 3, by omega⟩)).toReal

/-- The hyperbolic tangent is a real number everywhere. -/
theorem tanh_real (x : EReal) : Ideal.tanh x = ((Ideal.tanh x).toReal : EReal) := by
  induction x with
  | bot => rw [Ideal.tanh_bot]; simp
  | top => rw [Ideal.tanh_top]; simp
  | coe r => rw [Ideal.tanh_coe]; simp

/-- The scaled hyperbolic tangent is the torsion angle. -/
theorem theta_eq (tk : Vec Ideal ⟨1, ![16384]⟩ .i32) (cu : Vec Ideal ⟨1, ![17]⟩ .i32) (W : Vec Ideal ⟨2, ![21, 3]⟩ .f32)
    (bias : Vec Ideal ⟨1, ![3]⟩ .f32) (b : Fin 16) (l : ℕ) (k : Fin 3) :
    Ideal.ofBits .f32 0x40490FDB#32 * Ideal.tanh (logit W bias (token tk cu b l) k)
      = ((theta tk cu W bias b l k.val : ℝ) : EReal) := by
  have hk : (⟨k.val % 3, by omega⟩ : Fin 3) = k := Fin.ext (Nat.mod_eq_of_lt k.isLt)
  have hp := (Cert.Model.num_pos 0x40490FDB#32 (by decide) (by decide) (by decide)).1
  unfold theta
  rw [hk, EReal.coe_mul, ← tanh_real, ← hp]

variable (tk : Vec Ideal ⟨1, ![16384]⟩ .i32) (cu : Vec Ideal ⟨1, ![17]⟩ .i32) (W : Vec Ideal ⟨2, ![21, 3]⟩ .f32)
  (bias : Vec Ideal ⟨1, ![3]⟩ .f32)

/-- The first result: the angles of every residue, the three of each sequence next to each other. -/
def emissions : Vec Ideal ⟨2, ![1984, 48]⟩ .f32 := fun i =>
  ((theta tk cu W bias ⟨(i 1).val / 3, by have h : (i 1).val < 48 := (i 1).isLt; omega⟩ (i 0).val ((i 1).val % 3) : ℝ) : EReal)

/-- Coordinate `c` of atom `s` of sequence `b`. -/
def atom (b : Fin 16) (s c : ℕ) : ℝ :=
  Cert.Model.pick ⟨(Cert.Chain.run (Cert.Model.bonds (theta tk cu W bias b)) 0 (s + 1)).t.x,
    (Cert.Chain.run (Cert.Model.bonds (theta tk cu W bias b)) 0 (s + 1)).t.y,
    (Cert.Chain.run (Cert.Model.bonds (theta tk cu W bias b)) 0 (s + 1)).t.z⟩ c

/-- The second result: the positions of the three atoms of every residue, the nine numbers of each sequence next to each other. -/
def backbone : Vec Ideal ⟨2, ![1984, 144]⟩ .f32 := fun i =>
  ((atom tk cu W bias ⟨(i 1).val / 9, by have h : (i 1).val < 144 := (i 1).isLt; omega⟩
    (3 * (i 0).val + (i 1).val / 3 % 3) ((i 1).val % 3) : ℝ) : EReal)

/-- The third result: the lengths of the sequences. -/
def lengths : Vec Ideal ⟨2, ![1, 16]⟩ .i32 := fun i =>
  cu (ix1 (⟨(i 1).val + 1, by have h : (i 1).val < 16 := (i 1).isLt; omega⟩ : Fin 17))
    - cu (ix1 (⟨(i 1).val, by have h : (i 1).val < 16 := (i 1).isLt; omega⟩ : Fin 17))

end Cert.Spec
-- ==== Proof.ModelRun.lean ====
module

public import proofs.«01_k».proof.Proof.Model

@[expose] public section

noncomputable section

namespace Cert.Model

open Idealize.ShloMosaic Cert.KernelIdeal

variable {F : FTy → Type} [FloatOps F] (c : Dev nD)
  (arg0 : Memref sig .tc .smem S17 .i32) (h0 : arg0.IsWhole) (arg1 : Memref sig .tc .smem S21x3 .f32) (h1 : arg1.IsWhole)
  (arg2 : Memref sig .tc .smem S1x3 .f32) (h2 : arg2.IsWhole) (arg3 : Memref sig .tc .vmem S1x16384 .i32) (h3 : arg3.IsWhole)
  (arg4 : Memref sig .tc .vmem S1984x48 .f32) (h4 : arg4.IsWhole) (arg5 : Memref sig .tc .vmem S1984x144 .f32) (h5 : arg5.IsWhole)
  (arg6 : Memref sig .tc .smem S1x16 .i32) (h6 : arg6.IsWhole) (arg7 : Memref sig .tc .vmem S48x3x16x124 .f32) (h7 : arg7.IsWhole)
  (x0 : Vec F S17 .i32) (x1 : Vec F S21x3 .f32) (x2 : Vec F S1x3 .f32) (x3 : Vec F S1x16384 .i32)

/-- All the angles. -/
def angles : Tri (Vr F) :=
  ⟨angle arg1 h1 arg2 h2 x1 x2 (tok arg0 h0 arg3 h3 x0 x3) 0 (by decide),
   angle arg1 h1 arg2 h2 x1 x2 (tok arg0 h0 arg3 h3 x0 x3) 1 (by decide),
   angle arg1 h1 arg2 h2 x1 x2 (tok arg0 h0 arg3 h3 x0 x3) 2 (by decide)⟩

/-- The first result's store. -/
theorem run_em :
    (Gen.kernelRun0_A c arg0 h0 arg1 h1 arg2 h2 arg3 h3 arg4 h4 arg5 h5 arg6 h6 arg7 h7 x0 x1 x2 x3).1
      = [⟨Rect.unit (s := S1984x48) ![0, 0] S1984x48.size Gen.inb_S1984x48_S1984x48_0_0,
          laid (angles arg0 h0 arg1 h1 arg2 h2 arg3 h3 x0 x1 x2 x3)⟩] := by
  sl_kernel_rfl

/-- The chain of every chunk after `n` steps. -/
abbrev atoms (n : ℕ) (hn : n ≤ 48) : Atoms F :=
  chain (bondY (angles arg0 h0 arg1 h1 arg2 h2 arg3 h3 x0 x1 x2 x3)) (bondZ (angles arg0 h0 arg1 h1 arg2 h2 arg3 h3 x0 x1 x2 x3)) n hn

/-- The scratch stores. -/
theorem run_scratch :
    Gen.kernelRun0_A.sl.HS0_144 c arg0 h0 arg1 h1 arg2 h2 arg3 h3 x0 x1 x2 x3
      = pieces (bondY (angles arg0 h0 arg1 h1 arg2 h2 arg3 h3 x0 x1 x2 x3))
          (bondZ (angles arg0 h0 arg1 h1 arg2 h2 arg3 h3 x0 x1 x2 x3)) 48 (le_refl 48) := by
  sl_kernel_rfl

/-- The second result's store. -/
theorem run_pts :
    (Gen.kernelRun0_A c arg0 h0 arg1 h1 arg2 h2 arg3 h3 arg4 h4 arg5 h5 arg6 h6 arg7 h7 x0 x1 x2 x3).2.1
      = [⟨Rect.unit (s := S1984x144) ![0, 0] S1984x144.size Gen.inb_S1984x144_S1984x144_0_0,
          placed (arg7.view.readCov (Gen.kernelRun0_A.sl.HS0_144 c arg0 h0 arg1 h1 arg2 h2 arg3 h3 x0 x1 x2 x3)
            (Rect.unit (s := S48x3x16x124) ![0, 0, 0, 0] S48x3x16x124.size Gen.inb_S48x3x16x124_S48x3x16x124_0_0_0_0).toLoadRect)
            (before (atoms arg0 h0 arg1 h1 arg2 h2 arg3 h3 x0 x1 x2 x3 48 (le_refl 48)).rig)⟩] := by
  sl_kernel_rfl

/-- Where a sequence's length is stored. -/
theorem len_inb (j : ℕ) (hj : j < 16) : ∀ a, (![0, j] : Fin 2 → ℕ) a + S1x1.size a ≤ S1x16.size a :=
  fun a => by fin_cases a <;> simp [S1x1, S1x16]; omega

/-- The stores of the first `n` lengths, the last one first. -/
def lens : (n : ℕ) → n ≤ 16 → List (View.Piece (Elt F) S1x16 .i32)
  | 0, _ => []
  | n + 1, h =>
    ⟨Rect.unit (s := S1x16) ![0, n] S1x1.size (len_inb n h),
      fun _ => Scalar.subi (cuAt arg0 h0 x0 (n + 1) (by omega)) (cuAt arg0 h0 x0 n (by omega))⟩ :: lens n (Nat.le_of_succ_le h)

/-- The third result's stores. -/
theorem run_len :
    (Gen.kernelRun0_A c arg0 h0 arg1 h1 arg2 h2 arg3 h3 arg4 h4 arg5 h5 arg6 h6 arg7 h7 x0 x1 x2 x3).2.2.1
      = lens arg0 h0 x0 16 (le_refl 16) := by
  sl_kernel_rfl

end Cert.Model
-- ==== Proof.Tokens.lean ====
module

public import Idealize.ShloMosaic.Lib.Routing.Words
public import Idealize.ShloMosaic.Lib.WholeRead
public import proofs.«01_k».proof.Proof.Spec
public import proofs.«01_k».proof.Proof.ModelRun

@[expose] public section

noncomputable section

namespace Cert.Model

open Idealize.ShloMosaic Cert.KernelIdeal

/-- The start of the window, as a number. -/
theorem windowStart_word (S : ℕ) (hS : S ≤ 16384) :
    windowStart (BitVec.ofNat 32 S) = BitVec.ofNat 32 (min S 14208 / 128 * 128) := by
  have h1 : Scalar.minsi (BitVec.ofNat 32 S) 14208#32 = BitVec.ofNat 32 (min S 14208) := by
    unfold Scalar.minsi IntOp.minsi
    rw [Routing.slt_ofNat32 (by omega) (by decide)]
    by_cases h : S < 14208
    · rw [if_pos (by simpa using h), Nat.min_eq_left (by omega)]
    · rw [if_neg (by simpa using h), Nat.min_eq_right (by omega)]
  have h2 : Scalar.maxsi (BitVec.ofNat 32 (min S 14208)) 0#32 = BitVec.ofNat 32 (min S 14208) := by
    unfold Scalar.maxsi IntOp.maxsi
    rw [show (0#32 : BitVec 32) = BitVec.ofNat 32 0 from rfl, Routing.slt_ofNat32 (by omega) (by omega)]
    by_cases h : 0 < min S 14208
    · rw [if_pos (by simpa using h)]
    · rw [if_neg (by simpa using h), show min S 14208 = 0 by omega]
  unfold windowStart
  rw [h1, h2]
  unfold Scalar.divsi Scalar.muli IntOp.muli
  rw [show (128#32 : BitVec 32) = BitVec.ofNat 32 128 from rfl, Routing.divsi_word _ (by omega) (by decide) (by decide),
    ← BitVec.ofNat_mul]

/-- The start of the window, as the load's offset. -/
theorem window_off (S : ℕ) (hS : S ≤ 16384) : k0_off1 (BitVec.ofNat 32 S) = ![0, min S 14208 / 128 * 128] := by
  have h : k0_off1 (BitVec.ofNat 32 S) = ![0, (Scalar.indexCast (windowStart (BitVec.ofNat 32 S))).toNat] := rfl
  have h2 : (Scalar.indexCast (windowStart (BitVec.ofNat 32 S))).toNat = min S 14208 / 128 * 128 := by
    rw [windowStart_word S hS]
    show (BitVec.ofNat 32 _).toNat = _
    rw [BitVec.toNat_ofNat, Nat.mod_eq_of_lt (by omega)]
  rw [h, h2]

/-- How far the window is turned. -/
theorem turn_word (S : ℕ) (hS : S ≤ 16384) :
    Scalar.remsi (Scalar.subi 2176#32 (Scalar.subi (BitVec.ofNat 32 S) (windowStart (BitVec.ofNat 32 S)))) 2176#32
      = BitVec.ofNat 32 ((2176 - (S - min S 14208 / 128 * 128)) % 2176) := by
  rw [windowStart_word S hS]
  unfold Scalar.subi IntOp.subi Scalar.remsi
  rw [show (2176#32 : BitVec 32) = BitVec.ofNat 32 2176 from rfl,
    BitVec.ofNat_sub_ofNat_of_le S _ (by omega) (by omega), BitVec.ofNat_sub_ofNat_of_le 2176 _ (by omega) (by omega),
    Routing.remsi_word _ (by omega) (by decide) (by decide)]

/-- A position below a signed difference of offsets is a position inside. -/
theorem lt_of_slt (S E l : ℕ) (hS : S ≤ 16384) (hE : E ≤ 16384) (hl : l < 1984)
    (h : (BitVec.ofNat 32 l).slt (BitVec.ofNat 32 E - BitVec.ofNat 32 S)) : S + l < E := by
  have e (n : ℕ) (hn : n ≤ 16384) : (BitVec.ofNat 32 n).toInt = n := by
    rw [BitVec.toInt_eq_toNat_of_lt (by rw [BitVec.toNat_ofNat]; omega), BitVec.toNat_ofNat, Nat.mod_eq_of_lt (by omega)]
  rw [BitVec.slt_iff_toInt_lt, BitVec.toInt_sub, e l (by omega), e S hS, e E hE] at h
  simp only [Int.bmod] at h
  omega

/-- A token of a sequence whose offsets are in range: the window holds the tokens from its start on. -/
theorem tokRow_at (S E : ℕ) (hS : S ≤ 16384) (hE : E ≤ 16384) (w : IVec S1x2176 32) (tk : ℕ → BitVec 32)
    (hw : ∀ i : Fin 2176, w (ix2 (0 : Fin 1) i) = tk (min S 14208 / 128 * 128 + i.val)) (l : Fin 1984) :
    tokRow (BitVec.ofNat 32 S) (BitVec.ofNat 32 E) w (ix2 (0 : Fin 1) l)
      = if (BitVec.ofNat 32 l.val).slt (BitVec.ofNat 32 E - BitVec.ofNat 32 S) then tk (min (S + l.val) 16383) else 0#32 := by
  unfold tokRow
  rw [turn_word S hS]
  pointwise
  rw [BitVec.toNat_ofNat, Nat.mod_eq_of_lt (b := 2 ^ 32) (by omega)]
  rw [hw]
  unfold Scalar.select IntOp.cmpi Scalar.subi IntOp.subi
  by_cases h : (BitVec.ofNat 32 l.val).slt (BitVec.ofNat 32 E - BitVec.ofNat 32 S)
  · have hl := lt_of_slt S E l.val hS hE l.isLt h
    have e : min S 14208 / 128 * 128 + (l.val + 2176 - (2176 - (S - min S 14208 / 128 * 128)) % 2176 % 2176) % 2176
        = min (S + l.val) 16383 := by omega
    rw [e]
    simp [h]
  · simp [h]

section Reads

variable (arg0 : Memref sig .tc .smem S17 .i32) (h0 : arg0.IsWhole) (arg1 : Memref sig .tc .smem S21x3 .f32) (h1 : arg1.IsWhole)
  (arg2 : Memref sig .tc .smem S1x3 .f32) (h2 : arg2.IsWhole) (arg3 : Memref sig .tc .vmem S1x16384 .i32) (h3 : arg3.IsWhole)
  (x0 : Vec Ideal S17 .i32) (x1 : Vec Ideal S21x3 .f32) (x2 : Vec Ideal S1x3 .f32) (x3 : Vec Ideal S1x16384 .i32)

/-- The offset read is the offset. -/
theorem cuAt_eq (j : ℕ) (hj : j < 17) : cuAt arg0 h0 x0 j hj = x0 (ix1 (⟨j, hj⟩ : Fin 17)) := by
  unfold cuAt
  rw [Memref.IsWhole.readAt_unread]
  exact congrArg x0 (funext fun a => match a with | ⟨0, _⟩ => Fin.ext rfl)

/-- The weight read is the weight. -/
theorem wAt_eq (a k : ℕ) (ha : a < 21) (hk : k < 3) :
    wAt arg1 h1 x1 a k ha hk = x1 (ix2 (⟨a, ha⟩ : Fin 21) (⟨k, hk⟩ : Fin 3)) := by
  unfold wAt
  rw [Memref.IsWhole.readAt_unread]
  exact congrArg x1 (funext fun a => match a with | ⟨0, _⟩ => Fin.ext rfl | ⟨1, _⟩ => Fin.ext rfl)

/-- The bias read is the bias. -/
theorem biasAt_eq (k : ℕ) (hk : k < 3) : biasAt arg2 h2 x2 k hk = x2 (ix2 (0 : Fin 1) (⟨k, hk⟩ : Fin 3)) := by
  unfold biasAt
  rw [Memref.IsWhole.readAt_unread]
  exact congrArg x2 (funext fun a => match a with | ⟨0, _⟩ => Fin.ext rfl | ⟨1, _⟩ => Fin.ext rfl)

/-- The window read starts at its offset. -/
theorem windowAt_eq (S : ℕ) (hS : S ≤ 16384) (i : Fin 2176) :
    windowAt arg3 h3 x3 (BitVec.ofNat 32 S) (ix2 (0 : Fin 1) i)
      = x3 (ix2 (0 : Fin 1) (⟨min S 14208 / 128 * 128 + i.val, by omega⟩ : Fin 16384)) := by
  unfold windowAt
  rw [Memref.IsWhole.readAt_unread]
  refine congrArg x3 (funext fun a => match a with
    | ⟨0, _⟩ => Fin.ext ?_
    | ⟨1, _⟩ => Fin.ext ?_)
  · show k0_off1 (BitVec.ofNat 32 S) 0 + 0 * 1 = 0
    rw [window_off S hS]; rfl
  · show k0_off1 (BitVec.ofNat 32 S) 1 + 1 * i.val = min S 14208 / 128 * 128 + i.val
    rw [window_off S hS]; show min S 14208 / 128 * 128 + 1 * i.val = _; omega

/-- The tokens in the layout of the chunks. -/
theorem tok_at (tk : Vec Ideal ⟨1, ![16384]⟩ .i32) (hx : ∀ i : Fin 16384, x3 (ix2 (0 : Fin 1) i) = tk (ix1 i))
    (hc : ∀ j : Fin 17, (x0 (ix1 j)).toNat ≤ 16384) (b : Fin 16) (f : Fin 124) (r : Fin 16) :
    tok arg0 h0 arg3 h3 x0 x3 (ix3 r b f) = Spec.token tk x0 b (16 * f.val + r.val) := by
  unfold tok
  pointwise
  rw [cuAt_eq, cuAt_eq]
  obtain ⟨S, hS, eS⟩ : ∃ S ≤ 16384, x0 (ix1 (⟨b.val, by omega⟩ : Fin 17)) = BitVec.ofNat 32 S :=
    ⟨_, hc ⟨b.val, by omega⟩, by simp⟩
  obtain ⟨E, hE, eE⟩ : ∃ E ≤ 16384, x0 (ix1 (⟨b.val + 1, by omega⟩ : Fin 17)) = BitVec.ofNat 32 E :=
    ⟨_, hc ⟨b.val + 1, by omega⟩, by simp⟩
  rw [Spec.token_of tk x0 b _ S E hS eS eE, eS, eE]
  refine (tokRow_at S E hS hE _ (fun n => tk (ix1 (⟨min n 16383, by omega⟩ : Fin 16384))) (fun i => ?_)
    (⟨f.val * 16 + r.val, by omega⟩ : Fin 1984)).trans ?_
  · rw [windowAt_eq arg3 h3 x3 S hS i, hx]
    exact congrArg tk (congrArg ix1 (Fin.ext (by
      show min S 14208 / 128 * 128 + i.val = min (min S 14208 / 128 * 128 + i.val) 16383; omega)))
  · have e : f.val * 16 + r.val = 16 * f.val + r.val := by omega
    simp only [e]
    split
    · exact congrArg tk (congrArg ix1 (Fin.ext (by show min (min _ _) _ = min _ _; omega)))
    · rfl

/-- A choice by equality. -/
theorem select_eq (a b : BitVec 32) (x y : EReal) :
    Scalar.select (IntOp.cmpi .eq a b) x y = if a = b then x else y := by
  unfold Scalar.select IntOp.cmpi
  by_cases h : a = b
  · simp [h]
  · have e : (a == b) = false := beq_eq_false_iff_ne.mpr h
    simp [h, e]

/-- The running sum of the weights. -/
theorem acc_at (t : IVec S16x16x124 32) (k : ℕ) (hk : k < 3) (n : ℕ) (hn : n ≤ 21) (i : S16x16x124.Idx) (u : BitVec 32)
    (hu : t i = u) :
    acc arg1 h1 x1 t k hk n hn i
      = if h : u.toNat < n then (x1 (ix2 (⟨u.toNat, by omega⟩ : Fin 21) (⟨k, hk⟩ : Fin 3)) : EReal) else 0 := by
  subst hu
  induction n with
  | zero =>
    unfold acc
    pointwise
    rw [dif_neg (by omega)]
  | succ n ih =>
    unfold acc
    pointwise
    refine (congrArg₂ (· + ·) (ih _) (select_eq _ _ _ _)).trans ?_
    rw [wAt_eq]
    rcases lt_trichotomy (t i).toNat n with h | h | h
    · have hne : t i ≠ BitVec.ofNat 32 n := fun e => by rw [e, BitVec.toNat_ofNat] at h; omega
      rw [dif_pos h, dif_pos (by omega)]
      rw [if_neg hne]
      exact add_zero _
    · have he : t i = BitVec.ofNat 32 n := BitVec.eq_of_toNat_eq (by rw [BitVec.toNat_ofNat]; omega)
      subst h
      rw [dif_neg (by omega), dif_pos (by omega)]
      simp
    · have hne : t i ≠ BitVec.ofNat 32 n := fun e => by rw [e, BitVec.toNat_ofNat] at h; omega
      rw [dif_neg (by omega), dif_neg (by omega)]
      rw [if_neg hne]
      exact add_zero _

/-- The angles are the torsion angles. -/
theorem angles_at (tk : Vec Ideal ⟨1, ![16384]⟩ .i32) (bias : Vec Ideal ⟨1, ![3]⟩ .f32)
    (hx : ∀ i : Fin 16384, x3 (ix2 (0 : Fin 1) i) = tk (ix1 i)) (hb : ∀ k : Fin 3, x2 (ix2 (0 : Fin 1) k) = bias (ix1 k))
    (hc : ∀ j : Fin 17, (x0 (ix1 j)).toNat ≤ 16384) (b : Fin 16) (f : Fin 124) (r : Fin 16) (k : ℕ) (hk : k < 3) :
    pick (angles arg0 h0 arg1 h1 arg2 h2 arg3 h3 x0 x1 x2 x3) k (ix3 r b f)
      = ((Spec.theta tk x0 x1 bias b (16 * f.val + r.val) k : ℝ) : EReal) := by
  have key (k : ℕ) (hk : k < 3) : angle arg1 h1 arg2 h2 x1 x2 (tok arg0 h0 arg3 h3 x0 x3) k hk (ix3 r b f)
      = ((Spec.theta tk x0 x1 bias b (16 * f.val + r.val) k : ℝ) : EReal) := by
    unfold angle
    pointwise
    rw [acc_at arg1 h1 x1 _ k hk 21 (le_refl 21) (ix3 r b f) _ (tok_at arg0 h0 arg3 h3 x0 x3 tk hx hc b f r), biasAt_eq, hb]
    exact Spec.theta_eq tk x0 x1 bias b (16 * f.val + r.val) ⟨k, hk⟩
  match k, hk with
  | 0, h => exact key 0 h
  | 1, h => exact key 1 h
  | 2, h => exact key 2 h

end Reads

end Cert.Model
-- ==== Proof.KernelOut.lean ====
/- The kernel's results, element by element, from its angles. -/
module

public import proofs.«01_k».proof.Proof.ModelRun
public import proofs.«01_k».proof.Proof.KernelReal

@[expose] public section

noncomputable section

namespace Cert.Model

open Idealize.ShloMosaic Cert.KernelIdeal Cert.Chain

/-! ### Layout -/

/-- Choosing one of three functions and applying it is applying each and choosing. -/
theorem pick_ladder {α β : Type} (t : Tri (α → β)) (k : ℕ) (i : α) :
    (if _ : k < 1 then t.x i else if _ : k - 1 < 1 then t.y i else t.z i) = pick t k i := by
  match k with
  | 0 => rfl
  | 1 => rfl
  | k + 2 => rfl

/-- An entry of the laid-out angles is the angle of its kind at its residue. -/
theorem laid_apply (e : Tri (Vr Ideal)) (l : Fin 1984) (q : Fin 48) :
    laid e (ix2 l q) = pick e (q.val % 3) (ix3 ⟨l.val % 16, by omega⟩ ⟨q.val / 3, by omega⟩ ⟨l.val / 16, by omega⟩) := by
  unfold laid
  pointwise
  exact pick_ladder e (q.val % 3) (ix3 ⟨l.val % 16, by omega⟩ ⟨q.val / 3, by omega⟩ ⟨l.val / 16, by omega⟩)

/-- One coordinate cut out of the stored atoms. -/
theorem plane_apply (v : Vec Ideal S48x3x16x124 .f32) (c : Fin 3) (h) (s : Fin 48) (b : Fin 16) (f : Fin 124) :
    plane v c.val h (ix3 s b f) = v (ix4 s c b f) := by
  unfold plane
  pointwise

/-- A value of each fragment repeated for every atom. -/
theorem every_apply (v : Vc Ideal) (s : Fin 48) (b : Fin 16) (f : Fin 124) : every v (ix3 s b f) = v (ix2 b f) := by
  unfold every
  pointwise

/-- An entry of the laid-out positions is the moved coordinate of its atom. -/
theorem placed_apply (v : Vec Ideal S48x3x16x124 .f32) (g : Rig Ideal) (l : Fin 1984) (q : Fin 144) :
    placed v g (ix2 l q) = pick ⟨moved v g.r.x g.t.x, moved v g.r.y g.t.y, moved v g.r.z g.t.z⟩ (q.val % 3)
      (ix3 ⟨l.val % 16 * 3 + q.val / 3 % 3, by omega⟩ ⟨q.val / 9, by omega⟩ ⟨l.val / 16, by omega⟩) := by
  unfold placed
  pointwise
  exact pick_ladder ⟨moved v g.r.x g.t.x, moved v g.r.y g.t.y, moved v g.r.z g.t.z⟩ (q.val % 3)
    (ix3 ⟨l.val % 16 * 3 + q.val / 3 % 3, by omega⟩ ⟨q.val / 9, by omega⟩ ⟨l.val / 16, by omega⟩)

/-- A rotated and shifted coordinate, entry by entry. -/
theorem moved_apply (v : Vec Ideal S48x3x16x124 .f32) (p : Tri (Vc Ideal)) (t : Vc Ideal) (s : Fin 48) (b : Fin 16) (f : Fin 124) :
    (moved v p t (ix3 s b f) : EReal) = (v (ix4 s 0 b f) : EReal) * (p.x (ix2 b f) : EReal) + (v (ix4 s 1 b f) : EReal) * (p.y (ix2 b f) : EReal)
      + (v (ix4 s 2 b f) : EReal) * (p.z (ix2 b f) : EReal) + (t (ix2 b f) : EReal) := by
  unfold moved
  rw [addf_apply, addf_apply, addf_apply, mulf_apply, mulf_apply, mulf_apply, every_apply, every_apply, every_apply, every_apply,
    show plane v 0 _ (ix3 s b f) = _ from plane_apply v 0 _ s b f, show plane v 1 _ (ix3 s b f) = _ from plane_apply v 1 _ s b f,
    show plane v 2 _ (ix3 s b f) = _ from plane_apply v 2 _ s b f]
  rfl

/-- One coordinate of a vector, by number. -/
def coord (v : V3) (k : ℕ) : ℝ := pick ⟨v.x, v.y, v.z⟩ k

/-- A product of two triples and a shift, of reals, is real. -/
theorem real_dot (a b c d e f t : ℝ) :
    (a : EReal) * (b : EReal) + (c : EReal) * (d : EReal) + (e : EReal) * (f : EReal) + (t : EReal) = ((b * a + d * c + f * e + t : ℝ) : EReal) := by
  norm_cast
  ring

/-- A stored position moved by a motion. -/
theorem placed_at {v : Vec Ideal S48x3x16x124 .f32} {g : Rig Ideal} {G : Mot} {p : V3} (l : Fin 1984) (q : Fin 144)
    (hv : ∀ c : Fin 3, v (ix4 ⟨l.val % 16 * 3 + q.val / 3 % 3, by omega⟩ c ⟨q.val / 9, by omega⟩ ⟨l.val / 16, by omega⟩)
      = ((coord p c.val : ℝ) : EReal))
    (hg : RigAt (ix2 ⟨q.val / 9, by omega⟩ ⟨l.val / 16, by omega⟩) g G) :
    placed v g (ix2 l q) = ((coord (G.app p) (q.val % 3) : ℝ) : EReal) := by
  rw [placed_apply]
  have h0 := hv 0
  have h1 := hv 1
  have h2 := hv 2
  simp only [coord, pick, Fin.val_zero, Fin.val_one, Fin.val_two] at h0 h1 h2
  have hk : q.val % 3 < 3 := Nat.mod_lt _ (by decide)
  generalize q.val % 3 = k at hk ⊢
  match k, hk with
  | 0, _ =>
    show moved v g.r.x g.t.x _ = (((G.app p).x : ℝ) : EReal)
    rw [moved_apply, h0, h1, h2, hg.x.x, hg.x.y, hg.x.z, hg.t.x]
    exact real_dot _ _ _ _ _ _ _
  | 1, _ =>
    show moved v g.r.y g.t.y _ = (((G.app p).y : ℝ) : EReal)
    rw [moved_apply, h0, h1, h2, hg.y.x, hg.y.y, hg.y.z, hg.t.y]
    exact real_dot _ _ _ _ _ _ _
  | 2, _ =>
    show moved v g.r.z g.t.z _ = (((G.app p).z : ℝ) : EReal)
    rw [moved_apply, h0, h1, h2, hg.z.x, hg.z.y, hg.z.z, hg.t.z]
    exact real_dot _ _ _ _ _ _ _

/-! ### The stored positions -/

/-- A plane as a piece of one atom and one coordinate. -/
theorem cast_piece (v : Vc Ideal) (x : S1x1x16x124.Idx) (h : S16x124.ShapeCasts S1x1x16x124) :
    shapeCast S1x1x16x124 v h x = v (ix2 (x 2) (x 3)) := by
  pointwise

/-- What the scratch holds once it is filled. -/
def stored (dy dz : Tri (Vr Ideal)) (i : S48x3x16x124.Idx) : EReal :=
  pick (chain dy dz ((i 0).val + 1) (i 0).isLt).c (i 1).val (ix2 (i 2) (i 3))

/-- The atoms after equally many placements are the same. -/
theorem chain_congr (dy dz : Tri (Vr Ideal)) {n m : ℕ} (h : n = m) (hn : n ≤ 48) (hm : m ≤ 48) : chain dy dz n hn = chain dy dz m hm := by
  subst h; rfl

/-- What is stored at an entry whose atom and coordinate are known. -/
theorem stored_eq (dy dz : Tri (Vr Ideal)) (i : S48x3x16x124.Idx) {n c : ℕ} (hn : n < 48) {b : Fin 16} {f : Fin 124}
    (h0 : (i 0).val = n) (h1 : (i 1).val = c) (h2 : (i 2).val = b.val) (h3 : (i 3).val = f.val) :
    stored dy dz i = pick (chain dy dz (n + 1) hn).c c (ix2 b f) := by
  subst h0 h1
  obtain rfl : i 2 = b := Fin.ext h2
  obtain rfl : i 3 = f := Fin.ext h3
  rfl

/-- Each stored plane is its part of the stored atoms. -/
theorem piece_stored (dy dz : Tri (Vr Ideal)) (n c : ℕ) (hn : n < 48) (hc : c < 3) (x : S1x1x16x124.Idx) :
    shapeCast S1x1x16x124 (pick (chain dy dz (n + 1) hn).c c) (by decide) x
      = stored dy dz ((Rect.unit (s := S48x3x16x124) ![n, c, 0, 0] S1x1x16x124.size (piece_inb n c hn hc)).emb x) := by
  have x0 : (x 0).val < 1 := (x 0).isLt
  have x1 : (x 1).val < 1 := (x 1).isLt
  refine (cast_piece _ x _).trans (stored_eq dy dz _ hn ?_ ?_ ?_ ?_).symm
  · show n + 1 * (x 0).val = n
    omega
  · show c + 1 * (x 1).val = c
    omega
  · show 0 + 1 * (x 2).val = (x 2).val
    omega
  · show 0 + 1 * (x 3).val = (x 3).val
    omega

/-- Every stored plane is its part of the stored atoms. -/
theorem pieces_stored (dy dz : Tri (Vr Ideal)) : ∀ (n : ℕ) (h : n ≤ 48), ∀ p ∈ pieces (F := Ideal) dy dz n h, ∀ x : p.1.shape.Idx,
    p.2 x = stored dy dz (p.1.emb x)
  | 0, _, p, hp, _ => by simp [pieces] at hp
  | n + 1, h, p, hp, x => by
    simp only [pieces, List.mem_cons] at hp
    rcases hp with rfl | rfl | rfl | hp
    · exact piece_stored dy dz n 2 h (by decide) x
    · exact piece_stored dy dz n 1 h (by decide) x
    · exact piece_stored dy dz n 0 h (by decide) x
    · exact pieces_stored dy dz n (Nat.le_of_succ_le h) p hp x

/-- An entry lies in the plane of its atom and coordinate. -/
theorem mem_piece (n c : ℕ) (hn : n < 48) (hc : c < 3) (v : Vc Ideal) (y : S48x3x16x124.Idx) (h0 : (y 0).val = n) (h1 : (y 1).val = c) :
    y ∈ (piece (F := Ideal) n c hn hc v).1.set := by
  refine (Rect.mem_set_unit (inb := piece_inb n c hn hc)).mpr fun a => ?_
  match a with
  | ⟨0, _⟩ => exact ⟨h0.ge, by show (y 0).val < n + 1; omega⟩
  | ⟨1, _⟩ => exact ⟨h1.ge, by show (y 1).val < c + 1; omega⟩
  | ⟨2, _⟩ => exact ⟨Nat.zero_le _, by show (y 2).val < 0 + 16; have : (y 2).val < 16 := (y 2).isLt; omega⟩
  | ⟨3, _⟩ => exact ⟨Nat.zero_le _, by show (y 3).val < 0 + 124; have : (y 3).val < 124 := (y 3).isLt; omega⟩

/-- The stored planes cover every atom up to the number placed. -/
theorem pieces_cover (dy dz : Tri (Vr Ideal)) (y : S48x3x16x124.Idx) : ∀ (n : ℕ) (h : n ≤ 48), (y 0).val < n →
    ∃ p ∈ pieces (F := Ideal) dy dz n h, y ∈ p.1.set
  | 0, _, h => absurd h (Nat.not_lt_zero _)
  | n + 1, hn, h => by
    by_cases h0 : (y 0).val = n
    · have hc : (y 1).val < 3 := (y 1).isLt
      rcases (by omega : (y 1).val = 0 ∨ (y 1).val = 1 ∨ (y 1).val = 2) with h1 | h1 | h1
      · exact ⟨_, by simp only [pieces, List.mem_cons]; exact .inr (.inr (.inl rfl)), mem_piece n 0 hn (by decide) _ y h0 h1⟩
      · exact ⟨_, by simp only [pieces, List.mem_cons]; exact .inr (.inl rfl), mem_piece n 1 hn (by decide) _ y h0 h1⟩
      · exact ⟨_, by simp only [pieces, List.mem_cons]; exact .inl rfl, mem_piece n 2 hn (by decide) _ y h0 h1⟩
    · obtain ⟨p, hp, hy⟩ := pieces_cover dy dz y n (Nat.le_of_succ_le hn) (by omega)
      exact ⟨p, by simp only [pieces, List.mem_cons]; exact .inr (.inr (.inr hp)), hy⟩

/-- The scratch read back. -/
theorem scratch_read (dy dz : Tri (Vr Ideal)) (arg7 : Memref sig .tc .vmem S48x3x16x124 .f32)
    (inb : ∀ a, (![0, 0, 0, 0] : Fin 4 → ℕ) a + S48x3x16x124.size a ≤ S48x3x16x124.size a) (y : S48x3x16x124.Idx) :
    arg7.view.readCov (pieces (F := Ideal) dy dz 48 (le_refl 48)) (Rect.unit (s := S48x3x16x124) ![0, 0, 0, 0] S48x3x16x124.size inb).toLoadRect y
      = stored dy dz y := by
  have hy : (Rect.unit (s := S48x3x16x124) ![0, 0, 0, 0] S48x3x16x124.size inb).toLoadRect.idx y = y := by
    funext a
    apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
    | ⟨3, _⟩ => show 0 + 1 * (y 3).val = (y 3).val; omega
  rw [View.readCov_eq_canon']
  show View.canon _ _ = _
  rw [hy]
  exact View.canon_apply_of_pieces _ _ (pieces_stored dy dz 48 _) y (pieces_cover dy dz y 48 _ (y 0).isLt)

/-! ### The results from the angles -/

variable {e : Tri (Vr Ideal)} {θ : Fin 16 → ℕ → ℕ → ℝ}

/-- Every position of the second result: the end of the chain of all the bonds before it. -/
theorem points_at (he : ∀ (b : Fin 16) (f : Fin 124) (r : Fin 16) (k : ℕ), k < 3 →
      pick e k (ix3 r b f) = ((θ b (16 * f.val + r.val) k : ℝ) : EReal))
    (arg7 : Memref sig .tc .vmem S48x3x16x124 .f32)
    (inb : ∀ a, (![0, 0, 0, 0] : Fin 4 → ℕ) a + S48x3x16x124.size a ≤ S48x3x16x124.size a) (l : Fin 1984) (q : Fin 144) :
    placed (arg7.view.readCov (pieces (F := Ideal) (bondY e) (bondZ e) 48 (le_refl 48))
        (Rect.unit (s := S48x3x16x124) ![0, 0, 0, 0] S48x3x16x124.size inb).toLoadRect)
        (before (chain (bondY e) (bondZ e) 48 (le_refl 48)).rig) (ix2 l q)
      = ((coord (run (bonds (θ ⟨q.val / 9, by omega⟩)) 0 (3 * l.val + q.val / 3 % 3 + 1)).t (q.val % 3) : ℝ) : EReal) := by
  have hs : l.val % 16 * 3 + q.val / 3 % 3 < 48 := by omega
  have hc := (chain_at (he ⟨q.val / 9, by omega⟩ ⟨l.val / 16, by omega⟩) (l.val % 16 * 3 + q.val / 3 % 3 + 1) hs).c
  rw [placed_at l q (G := run (bonds (θ ⟨q.val / 9, by omega⟩)) 0 (48 * (l.val / 16)))
    (p := (run (bonds (θ ⟨q.val / 9, by omega⟩)) (48 * (l.val / 16)) (l.val % 16 * 3 + q.val / 3 % 3 + 1)).t)
    (fun c => ?_) (before_chain_at (he ⟨q.val / 9, by omega⟩) ⟨l.val / 16, by omega⟩)]
  · have := run_add (bonds (θ ⟨q.val / 9, by omega⟩)) 0 (48 * (l.val / 16)) (l.val % 16 * 3 + q.val / 3 % 3 + 1)
    rw [Nat.zero_add, show 48 * (l.val / 16) + (l.val % 16 * 3 + q.val / 3 % 3 + 1) = 3 * l.val + q.val / 3 % 3 + 1 by omega] at this
    rw [← this]
    rfl
  · rw [scratch_read]
    unfold stored
    match c with
    | ⟨0, _⟩ => exact hc.x
    | ⟨1, _⟩ => exact hc.y
    | ⟨2, _⟩ => exact hc.z

/-- Every angle of the first result. -/
theorem laid_at (he : ∀ (b : Fin 16) (f : Fin 124) (r : Fin 16) (k : ℕ), k < 3 →
      pick e k (ix3 r b f) = ((θ b (16 * f.val + r.val) k : ℝ) : EReal)) (l : Fin 1984) (q : Fin 48) :
    laid e (ix2 l q) = ((θ ⟨q.val / 3, by omega⟩ l.val (q.val % 3) : ℝ) : EReal) := by
  rw [laid_apply, he _ _ _ _ (Nat.mod_lt _ (by decide))]
  show ((θ _ (16 * (l.val / 16) + l.val % 16) _ : ℝ) : EReal) = _
  rw [Nat.div_add_mod]

end Cert.Model

end
-- ==== Proof.KernelArr.lean ====
module

public import Idealize.ShloMosaic.Lib.Pipeline.ValueKit
public import Idealize.ShloMosaic.Lib.Pipeline.FrameBody
public import Idealize.ShloMosaic.Lib.Claim
public import proofs.«01_k».proof.Proof.Gen.KernelIdeal.Value
public import proofs.«01_k».proof.Proof.Tokens
public import proofs.«01_k».proof.Proof.KernelOut

@[expose] public section

noncomputable section

namespace Cert.Model

open Idealize.ShloMosaic Idealize.ShloMosaic.TcCoe Cert.KernelIdeal Cert.KernelIdeal.Gen

/-- The offsets of a store of everything. -/
theorem zero_off : (![0, 0] : Fin 2 → ℕ) = fun _ => 0 := funext fun a => match a with
  | ⟨0, _⟩ => rfl
  | ⟨1, _⟩ => rfl

section Outs

variable (c : Dev nD)
  (arg0 : Memref sig .tc .smem S17 .i32) (h0 : arg0.IsWhole) (arg1 : Memref sig .tc .smem S21x3 .f32) (h1 : arg1.IsWhole)
  (arg2 : Memref sig .tc .smem S1x3 .f32) (h2 : arg2.IsWhole) (arg3 : Memref sig .tc .vmem S1x16384 .i32) (h3 : arg3.IsWhole)
  (arg4 : Memref sig .tc .vmem S1984x48 .f32) (h4 : arg4.IsWhole) (arg5 : Memref sig .tc .vmem S1984x144 .f32) (h5 : arg5.IsWhole)
  (arg6 : Memref sig .tc .smem S1x16 .i32) (h6 : arg6.IsWhole) (arg7 : Memref sig .tc .vmem S48x3x16x124 .f32) (h7 : arg7.IsWhole)
  (x0 : Vec Ideal S17 .i32) (x1 : Vec Ideal S21x3 .f32) (x2 : Vec Ideal S1x3 .f32) (x3 : Vec Ideal S1x16384 .i32)
  (tk : Vec Ideal ⟨1, ![16384]⟩ .i32) (bias : Vec Ideal ⟨1, ![3]⟩ .f32)

/-- What the run leaves for the first result. -/
theorem out_em (hx : ∀ i : Fin 16384, x3 (ix2 (0 : Fin 1) i) = tk (ix1 i)) (hb : ∀ k : Fin 3, x2 (ix2 (0 : Fin 1) k) = bias (ix1 k))
    (hc : ∀ j : Fin 17, (x0 (ix1 j)).toNat ≤ 16384) (i : S1984x48.Idx) :
    out0_A_4 c arg0 h0 arg1 h1 arg2 h2 arg3 h3 arg4 h4 arg5 h5 arg6 h6 arg7 h7 x0 x1 x2 x3 i
      = Spec.emissions tk x0 x1 bias i := by
  obtain ⟨l, q, rfl⟩ : ∃ l q, i = ix2 l q := ⟨_, _, eq_ix2 i⟩
  unfold out0_A_4
  rw [run_em, View.read_writes_junk_eq_canon, View.canon_unit_zero (S := S1984x48) zero_off]
  exact laid_at (angles_at arg0 h0 arg1 h1 arg2 h2 arg3 h3 x0 x1 x2 x3 tk bias hx hb hc) l q

/-- What the run leaves for the second result. -/
theorem out_pts (hx : ∀ i : Fin 16384, x3 (ix2 (0 : Fin 1) i) = tk (ix1 i)) (hb : ∀ k : Fin 3, x2 (ix2 (0 : Fin 1) k) = bias (ix1 k))
    (hc : ∀ j : Fin 17, (x0 (ix1 j)).toNat ≤ 16384) (i : S1984x144.Idx) :
    out0_A_5 c arg0 h0 arg1 h1 arg2 h2 arg3 h3 arg4 h4 arg5 h5 arg6 h6 arg7 h7 x0 x1 x2 x3 i
      = Spec.backbone tk x0 x1 bias i := by
  obtain ⟨l, q, rfl⟩ : ∃ l q, i = ix2 l q := ⟨_, _, eq_ix2 i⟩
  unfold out0_A_5
  rw [run_pts, View.read_writes_junk_eq_canon, View.canon_unit_zero (S := S1984x144) zero_off, run_scratch]
  exact points_at (angles_at arg0 h0 arg1 h1 arg2 h2 arg3 h3 x0 x1 x2 x3 tk bias hx hb hc) arg7 _ l q

/-- The lengths stored, read back. -/
theorem lens_read (n : ℕ) (hn : n ≤ 16) (q : Fin 16) (hq : q.val < n) :
    View.canon (lens arg0 h0 x0 n hn) (ix2 (0 : Fin 1) q) = Spec.lengths x0 (ix2 (0 : Fin 1) q) := by
  induction n with
  | zero => omega
  | succ n ih =>
    unfold lens
    by_cases h : q.val = n
    · subst h
      have e : ix2 (0 : Fin 1) q = (Rect.unit (s := S1x16) ![0, q.val] S1x1.size (len_inb q.val q.isLt)).emb (ix2 (0 : Fin 1) (0 : Fin 1)) :=
        funext fun a => match a with
          | ⟨0, _⟩ => rfl
          | ⟨1, _⟩ => Fin.ext (by show q.val = q.val + 1 * 0; omega)
      rw [e, View.canon_cons_emb, ← e, cuAt_eq, cuAt_eq]
      rfl
    · rw [View.canon_cons_of_not_mem]
      · exact ih (by omega) (by omega)
      · intro hm
        have := (Rect.mem_set_unit (inb := len_inb n hn)).1 hm 1
        have h1 : n ≤ q.val := this.1
        have h2 : q.val < n + 1 := this.2
        omega

/-- What the run leaves for the third result. -/
theorem out_len (i : S1x16.Idx) :
    out0_A_6 c arg0 h0 arg1 h1 arg2 h2 arg3 h3 arg4 h4 arg5 h5 arg6 h6 arg7 h7 x0 x1 x2 x3 i = Spec.lengths x0 i := by
  obtain ⟨z, q, rfl⟩ : ∃ z q, i = ix2 z q := ⟨_, _, eq_ix2 i⟩
  obtain rfl : z = (0 : Fin 1) := Subsingleton.elim _ _
  unfold out0_A_6
  rw [run_len, View.read_writes_junk_eq_canon]
  exact lens_read arg0 h0 x0 16 (le_refl 16) q q.isLt

end Outs

section Arrays

variable (m : (ℓ : Loc nD τ sig) → Buf (Elt Ideal) ℓ) (c : Dev nD)

/-- Every window's block index at the one point. -/
theorem idx : win0_0.index t0_0 = ![0] ∧ win0_1.index t0_0 = ![0, 0] ∧ win0_2.index t0_0 = ![0, 0] ∧ win0_3.index t0_0 = ![0, 0] := by
  decide +kernel

/-- The offsets' block is the argument. -/
theorem iblk0 : iblk m c 0 t0_0 = m ((c : Thread nD τ).loc main_arg1) := by
  blk_ext! [iblk, V, idx]

/-- The weights' block is the array. -/
theorem block1 : iblk m c 1 t0_0 = V m c main_v2 := by
  blk_ext! [iblk, idx]

/-- The biases' block is the array. -/
theorem block2 : iblk m c 2 t0_0 = V m c main_v3 := by
  blk_ext! [iblk, idx]

/-- The tokens' block is the array. -/
theorem block3 : iblk m c 3 t0_0 = V m c main_v0 := by
  blk_ext! [iblk, idx]

/-- The weights' block is the argument: the two casts keep it. -/
theorem iblk1 : iblk m c 1 t0_0 = m ((c : Thread nD τ).loc main_arg2) := by
  rw [block1]
  entry_read
  rfl

/-- The biases' block is the argument as a row. -/
theorem iblk2 (k : Fin 3) : iblk m c 2 t0_0 (ix2 (0 : Fin 1) k) = m ((c : Thread nD τ).loc main_arg3) (ix1 k) := by
  rw [block2]
  entry_read
  pointwise

/-- The tokens' block is the argument as a row. -/
theorem iblk3 (i : Fin 16384) : iblk m c 3 t0_0 (ix2 (0 : Fin 1) i) = m ((c : Thread nD τ).loc main_arg0) (ix1 i) := by
  rw [block3]
  entry_read
  pointwise

variable (hc : ∀ j : Fin 17, ((m ((c : Thread nD τ).loc main_arg1) : Vec Ideal S17 .i32) (ix1 j)).toNat ≤ 16384)

include hc in
/-- The first result. -/
theorem arr4 : (dats m 0 c).arrAt 4 cfg0.N = Spec.emissions (m ((c : Thread nD τ).loc main_arg0)) (m ((c : Thread nD τ).loc main_arg1))
    (m ((c : Thread nD τ).loc main_arg2)) (m ((c : Thread nD τ).loc main_arg3)) := by
  refine (dats m 0 c).arrAt_eq_of_after_last 4 t0_0 (by decide +kernel) _ fun j => ?_
  blk_simp
  rw [after0_4]
  unfold outsAt0
  dsimp only
  rw [iblk0, iblk1]
  exact out_em c _ _ _ _ _ _ _ _ _ _ _ _ _ _ _ _ _ _ _ _ _ _ (iblk3 m c) (iblk2 m c) hc j

include hc in
/-- The second result. -/
theorem arr5 : (dats m 0 c).arrAt 5 cfg0.N = Spec.backbone (m ((c : Thread nD τ).loc main_arg0)) (m ((c : Thread nD τ).loc main_arg1))
    (m ((c : Thread nD τ).loc main_arg2)) (m ((c : Thread nD τ).loc main_arg3)) := by
  refine (dats m 0 c).arrAt_eq_of_after_last 5 t0_0 (by decide +kernel) _ fun j => ?_
  blk_simp
  rw [after0_5]
  unfold outsAt0
  dsimp only
  rw [iblk0, iblk1]
  exact out_pts c _ _ _ _ _ _ _ _ _ _ _ _ _ _ _ _ _ _ _ _ _ _ (iblk3 m c) (iblk2 m c) hc j

/-- The third result. -/
theorem arr6 : (dats m 0 c).arrAt 6 cfg0.N = Spec.lengths (m ((c : Thread nD τ).loc main_arg1)) := by
  refine (dats m 0 c).arrAt_eq_of_after_last 6 t0_0 (by decide +kernel) _ fun j => ?_
  blk_simp
  rw [after0_6]
  unfold outsAt0
  dsimp only
  rw [iblk0, iblk1]
  exact out_len c _ _ _ _ _ _ _ _ _ _ _ _ _ _ _ _ _ _ _ _ j

end Arrays

end Cert.Model
-- ==== Proof.RefStep.lean ====
/- One step of the reference's chain, over the extended reals, is one bond's motion of `Rigid`. -/
module

public import proofs.«01_k».proof.Proof.Gen.ReferenceIdeal.Run
public import proofs.«01_k».proof.Proof.Spec
public import Idealize.ShloMosaic.Lib.DynamicIndex
public import Idealize.ShloMosaic.Lib.WordCmp

@[expose] public section

noncomputable section

namespace Cert.RefStep

open Idealize.ShloMosaic Cert.ReferenceIdeal Cert.ReferenceIdeal.Gen Cert.ReferenceIdeal.Value Cert.Chain
open Cert.Model (bonds along around around_pos)

/-- Row `b` of an array holds the coordinates of a vector. -/
structure RowAt (b : Fin 16) (p : FVec Ideal S16x3 .f32) (v : V3) : Prop where
  x : p (ix2 b 0) = ((v.x : ℝ) : EReal)
  y : p (ix2 b 1) = ((v.y : ℝ) : EReal)
  z : p (ix2 b 2) = ((v.z : ℝ) : EReal)

variable {b : Fin 16}

/-- A difference of real rows. -/
theorem RowAt.sub {p q : FVec Ideal S16x3 .f32} {v w : V3} (hp : RowAt b p v) (hq : RowAt b q w) : RowAt b (subf p q) (v.sub w) := by
  constructor <;> simp only [V3.sub] <;> pointwise <;> simp only [hp.x, hp.y, hp.z, hq.x, hq.y, hq.z] <;> norm_cast

/-- An array with every row divided by its length. -/
def normed (p : FVec Ideal S16x3 .f32) : FVec Ideal S16x3 .f32 :=
  Host.divf p (broadcastInDim S16x3 ![0, 1] bcast_S16x1_S16x3_0_1 (Host.sqrt (broadcastInDim S16x1 ![0] bcast_S16_S16x1_0
    (Host.reduceAdd (mulf p p) (constant S_ .f32 0x00000000#32) reducesTo_S16x3_S16_d1 h_S_))))

/-- A quotient of reals by a number that is not zero. -/
theorem quot_real {x y : ℝ} (h : y ≠ 0) : Ideal.div ((x : ℝ) : EReal) ((y : ℝ) : EReal) = ((y⁻¹ * x : ℝ) : EReal) := by
  rw [Ideal.div_coe h, ← EReal.coe_mul, one_div, mul_comm]

/-- A row divided by its length, entry by entry. -/
theorem normed_apply (p : FVec Ideal S16x3 .f32) (k : Fin 3) :
    normed p (ix2 b k) = Ideal.div (p (ix2 b k))
      (Ideal.sqrt (p (ix2 b 0) * p (ix2 b 0) + p (ix2 b 1) * p (ix2 b 1) + p (ix2 b 2) * p (ix2 b 2))) := by
  unfold normed
  pointwise
  rw [Fin.sum_univ_three]

/-- A real row of positive length divided by its length. -/
theorem RowAt.normed {p : FVec Ideal S16x3 .f32} {v : V3} (hp : RowAt b p v) (h : 0 < v.dot v) :
    RowAt b (normed p) (v.smul (Real.sqrt (v.dot v))⁻¹) := by
  have e : Ideal.sqrt (p (ix2 b 0) * p (ix2 b 0) + p (ix2 b 1) * p (ix2 b 1) + p (ix2 b 2) * p (ix2 b 2))
      = ((Real.sqrt (v.dot v) : ℝ) : EReal) := by
    rw [hp.x, hp.y, hp.z, ← EReal.coe_mul, ← EReal.coe_mul, ← EReal.coe_mul, ← EReal.coe_add, ← EReal.coe_add]
    show Ideal.sqrt ((v.dot v : ℝ) : EReal) = _
    rw [Ideal.sqrt_coe, if_neg (not_lt.mpr h.le)]
  have hs : Real.sqrt (v.dot v) ≠ 0 := (Real.sqrt_pos.mpr h).ne'
  constructor <;> rw [normed_apply, e]
  · rw [hp.x, quot_real hs]; rfl
  · rw [hp.y, quot_real hs]; rfl
  · rw [hp.z, quot_real hs]; rfl

/-- The three columns of an array. -/
def col0 (p : FVec Ideal S16x3 .f32) : FVec Ideal S16 .f32 :=
  shapeCast S16 (extractStridedSlice S16x1 ![0, 0] p slices_S16x3_S16x1_0_0) shapeCasts_S16x1_S16
@[inherit_doc col0] def col1 (p : FVec Ideal S16x3 .f32) : FVec Ideal S16 .f32 :=
  shapeCast S16 (extractStridedSlice S16x1 ![0, 1] p slices_S16x3_S16x1_0_1) shapeCasts_S16x1_S16
@[inherit_doc col0] def col2 (p : FVec Ideal S16x3 .f32) : FVec Ideal S16 .f32 :=
  shapeCast S16 (extractStridedSlice S16x1 ![0, 2] p slices_S16x3_S16x1_0_2) shapeCasts_S16x1_S16

/-- The first coordinates. -/
theorem col0_apply (p : FVec Ideal S16x3 .f32) : col0 p (ix1 b) = p (ix2 b 0) := by
  unfold col0; pointwise
/-- The second coordinates. -/
theorem col1_apply (p : FVec Ideal S16x3 .f32) : col1 p (ix1 b) = p (ix2 b 1) := by
  unfold col1; pointwise
/-- The third coordinates. -/
theorem col2_apply (p : FVec Ideal S16x3 .f32) : col2 p (ix1 b) = p (ix2 b 2) := by
  unfold col2; pointwise

/-- Rows made of three columns. -/
def rows (x y z : FVec Ideal S16 .f32) : FVec Ideal S16x3 .f32 :=
  transpose S16x3 [1, 0] ((concatenate S3x16 0 [⟨S1x16, ((broadcastInDim S1x16 ![1] bcast_S16_S1x16_1 x) : FVec Ideal S1x16 .f32)⟩, ⟨S1x16, ((broadcastInDim S1x16 ![1] bcast_S16_S1x16_1 y) : FVec Ideal S1x16 .f32)⟩, ⟨S1x16, ((broadcastInDim S1x16 ![1] bcast_S16_S1x16_1 z) : FVec Ideal S1x16 .f32)⟩] concatenates_S1x16_S1x16_S1x16_S3x16_d0 : FVec Ideal S3x16 .f32)) transposes_S3x16_S16x3_1_0

/-- Three columns put side by side. -/
theorem rows_apply (x y z : FVec Ideal S16 .f32) : rows x y z (ix2 b 0) = x (ix1 b) ∧ rows x y z (ix2 b 1) = y (ix1 b) ∧ rows x y z (ix2 b 2) = z (ix1 b) := by
  unfold rows
  refine ⟨?_, ?_, ?_⟩ <;> pointwise

/-- The cross products of the rows of two arrays. -/
def crossed (p q : FVec Ideal S16x3 .f32) : FVec Ideal S16x3 .f32 :=
  rows (subf (mulf (col1 p) (col2 q)) (mulf (col2 p) (col1 q))) (subf (mulf (col2 p) (col0 q)) (mulf (col0 p) (col2 q)))
    (subf (mulf (col0 p) (col1 q)) (mulf (col1 p) (col0 q)))

/-- A cross product of real rows. -/
theorem RowAt.cross {p q : FVec Ideal S16x3 .f32} {v w : V3} (hp : RowAt b p v) (hq : RowAt b q w) :
    RowAt b (crossed p q) (v.cross w) := by
  constructor <;> simp only [crossed, V3.cross, rows_apply] <;> pointwise <;>
    simp only [col0_apply, col1_apply, col2_apply, hp.x, hp.y, hp.z, hq.x, hq.y, hq.z] <;> norm_cast

/-- Rows given in frames: a point, and three directions scaled by the coordinates. -/
def placed (c u m n d : FVec Ideal S16x3 .f32) : FVec Ideal S16x3 .f32 :=
  addf c (Host.dotGeneral dot_S16x3x3_S16x3_S16x3_2_1_1_n_0_0 none ((concatenate S16x3x3 2 [⟨S16x3x1, ((broadcastInDim S16x3x1 ![0, 1] bcast_S16x3_S16x3x1_0_1 u) : FVec Ideal S16x3x1 .f32)⟩, ⟨S16x3x1, ((broadcastInDim S16x3x1 ![0, 1] bcast_S16x3_S16x3x1_0_1 m) : FVec Ideal S16x3x1 .f32)⟩, ⟨S16x3x1, ((broadcastInDim S16x3x1 ![0, 1] bcast_S16x3_S16x3x1_0_1 n) : FVec Ideal S16x3x1 .f32)⟩] concatenates_S16x3x1_S16x3x1_S16x3x1_S16x3x3_d2 : FVec Ideal S16x3x3 .f32)) d)

/-- The placed atom, entry by entry. -/
theorem placed_apply (c u m n d : FVec Ideal S16x3 .f32) (k : Fin 3) :
    placed c u m n d (ix2 b k) = c (ix2 b k) + (u (ix2 b k) * d (ix2 b 0) + m (ix2 b k) * d (ix2 b 1) + n (ix2 b k) * d (ix2 b 2)) := by
  unfold placed
  pointwise
  rw [Fin.sum_univ_three]
  rfl

/-- The placed atom is the frame applied to the offset. -/
theorem RowAt.placed {c u m n d : FVec Ideal S16x3 .f32} {G : Mot} {v : V3} (hc : RowAt b c G.t) (hu : RowAt b u G.u)
    (hm : RowAt b m G.m) (hn : RowAt b n G.n) (hd : RowAt b d v) : RowAt b (placed c u m n d) (G.app v) := by
  constructor <;> simp only [placed_apply, Mot.app, Mot.lin] <;>
    simp only [hu.x, hu.y, hu.z, hn.x, hn.y, hn.z, hm.x, hm.y, hm.z, hc.x, hc.y, hc.z, hd.x, hd.y, hd.z, ← EReal.coe_mul, ← EReal.coe_add] <;> rw [add_comm]

/-- The offsets of the next atoms: one number along, and two per row across. -/
def offset (x s : FVec Ideal S_ .f32) (φ : FVec Ideal S16 .f32) : FVec Ideal S16x3 .f32 :=
  (concatenate S16x3 1 [⟨S16x1, ((broadcastInDim S16x1 ![0] bcast_S16_S16x1_0 (broadcastInDim S16 ![] bcast_S_S16 x)) : FVec Ideal S16x1 .f32)⟩, ⟨S16x1, ((broadcastInDim S16x1 ![0] bcast_S16_S16x1_0 (mulf (broadcastInDim S16 ![] bcast_S_S16 s) (Host.cos φ))) : FVec Ideal S16x1 .f32)⟩, ⟨S16x1, ((broadcastInDim S16x1 ![0] bcast_S16_S16x1_0 (mulf (broadcastInDim S16 ![] bcast_S_S16 s) (Host.sin φ))) : FVec Ideal S16x1 .f32)⟩] concatenates_S16x1_S16x1_S16x1_S16x3_d1 : FVec Ideal S16x3 .f32)

/-- The offset of the next atom in the frame of the last three. -/
theorem offset_at {x s : FVec Ideal S_ .f32} {φ : FVec Ideal S16 .f32} {e : Bond} (hx : ∀ i, x i = ((e.x : ℝ) : EReal))
    (hs : ∀ i, s i = ((e.s : ℝ) : EReal)) (hφ : φ (ix1 b) = ((e.φ : ℝ) : EReal)) : RowAt b (offset x s φ) e.pos := by
  constructor <;> simp only [offset, Bond.pos] <;> pointwise
  · exact hx _
  · rw [hs, hφ, Ideal.cos_coe, ← EReal.coe_mul]
  · rw [hs, hφ, Ideal.sin_coe, ← EReal.coe_mul]

/-- One plane of a stack of planes. -/
def plane {n : ℕ} (w : FVec Ideal ⟨3, ![n, 16, 3]⟩ .f32) (k : Fin n) : FVec Ideal S16x3 .f32 := fun i => w (ix3 k (i 0) (i 1))

/-- Rows with the same entries. -/
theorem RowAt.congr {p q : FVec Ideal S16x3 .f32} {v : V3} (h : RowAt b p v) (e : ∀ k : Fin 3, q (ix2 b k) = p (ix2 b k)) : RowAt b q v :=
  ⟨(e 0).trans h.x, (e 1).trans h.y, (e 2).trans h.z⟩

variable (V : Valuation τ sig (Elt Ideal))

/-- What the loop carries: the bond tables, the torsion angles, the counter, the last three atoms and the atoms so far. -/
def tabX : FVec Ideal S5952 .f32 := V (Proc.devRef .tc main_v49_0)
@[inherit_doc tabX] def tabS : FVec Ideal S5952 .f32 := V (Proc.devRef .tc main_v49_1)
@[inherit_doc tabX] def tabA : FVec Ideal S5952x16 .f32 := V (Proc.devRef .tc main_v49_2)
@[inherit_doc tabX] def ctr : IVec S_ 32 := V (Proc.devRef .tc main_v49_3)
@[inherit_doc tabX] def last : FVec Ideal S3x16x3 .f32 := V (Proc.devRef .tc main_v49_4)
@[inherit_doc tabX] def sofar : FVec Ideal S5952x16x3 .f32 := V (Proc.devRef .tc main_v49_5)

/-- What the loop's carried contents say before trip `k`, for the torsion angles `θ`. -/
structure Inv (θ : Fin 16 → ℕ → ℕ → ℝ) (k : ℕ) : Prop where
  ctr : ctr V = fun _ => BitVec.ofNat 32 k
  x : ∀ s : Fin 5952, tabX V (ix1 s) = ((along (s.val % 3) : ℝ) : EReal)
  s : ∀ s : Fin 5952, tabS V (ix1 s) = ((around (s.val % 3) : ℝ) : EReal)
  φ : ∀ (s : Fin 5952) (b : Fin 16), tabA V (ix2 s b) = ((θ b (s.val / 3) (s.val % 3) : ℝ) : EReal)
  last : ∀ b, ∃ a a' : V3, RowAt b (plane (last V) 0) a ∧ RowAt b (plane (last V) 1) a'
    ∧ RowAt b (plane (last V) 2) (run (bonds (θ b)) 0 k).t ∧ Rep a a' (run (bonds (θ b)) 0 k).t (run (bonds (θ b)) 0 k)
  out : ∀ s : Fin 5952, s.val < k → ∀ b, RowAt b (plane (sofar V) s) (run (bonds (θ b)) 0 (s.val + 1)).t

/-- The oldest of the three carried atoms. -/
theorem oldest (k : Fin 3) : shapeCast S16x3 (extractStridedSlice S1x16x3 ![0, 0, 0] (last V) slices_S3x16x3_S1x16x3_0_0_0)
    shapeCasts_S1x16x3_S16x3 (ix2 b k) = plane (last V) 0 (ix2 b k) := by
  pointwise; rfl

/-- The middle one of the three carried atoms. -/
theorem v60_apply (k : Fin 3) : (res_main_while0b_v60 V : FVec Ideal S16x3 .f32) (ix2 b k) = plane (last V) 1 (ix2 b k) := by
  show shapeCast S16x3 (extractStridedSlice S1x16x3 ![1, 0, 0] (last V) slices_S3x16x3_S1x16x3_1_0_0) shapeCasts_S1x16x3_S16x3 (ix2 b k) = _
  pointwise; rfl

/-- The newest of the three carried atoms. -/
theorem v62_apply (k : Fin 3) : (res_main_while0b_v62 V : FVec Ideal S16x3 .f32) (ix2 b k) = plane (last V) 2 (ix2 b k) := by
  show shapeCast S16x3 (extractStridedSlice S1x16x3 ![2, 0, 0] (last V) slices_S3x16x3_S1x16x3_2_0_0) shapeCasts_S1x16x3_S16x3 (ix2 b k) = _
  pointwise; rfl

variable {V}

/-- The bond table's entry of this trip. -/
theorem entry_at {k : ℕ} (hk : k < 5952) (hc : ctr V = fun _ => BitVec.ofNat 32 k) (w : FVec Ideal S5952 .f32) (i : S_.Idx) :
    shapeCast S_ (Host.dynamicSlice S1 w (fun k => (((![ctr V] : Fin 1 → IVec S_ 32)) k (Shape.Idx.first h_S_)).toInt) sliceFits_S5952_S1) shapeCasts_S1_S_ i
      = w (ix1 ⟨k, hk⟩) := by
  have hs : S5952.Slices ![k] S1 := ⟨rfl, fun a => by
    match a with
    | ⟨0, _⟩ => show k + 1 ≤ 5952; omega⟩
  rw [Host.dynamicSlice_eq_extractStridedSlice S1 w _ ![k] _ hs (fun a => by
    match a with
    | ⟨0, _⟩ => show (ctr V _).toInt = _; rw [hc]; exact toInt_ofNat_of_lt (by omega))]
  pointwise

/-- The torsion angles of this trip. -/
theorem angle_at {k : ℕ} (hk : k < 5952) (hc : ctr V = fun _ => BitVec.ofNat 32 k) :
    (res_main_while0b_v56 V : FVec Ideal S16 .f32) (ix1 b) = tabA V (ix2 ⟨k, hk⟩ b) := by
  show shapeCast S16 (Host.dynamicSlice S1x16 (tabA V) (fun k => (((![ctr V, constantI S_ 32 0#32] : Fin 2 → IVec S_ 32)) k (Shape.Idx.first h_S_)).toInt) sliceFits_S5952x16_S1x16) shapeCasts_S1x16_S16 (ix1 b) = _
  have hs : S5952x16.Slices ![k, 0] S1x16 := ⟨rfl, fun a => by
    match a with
    | ⟨0, _⟩ => show k + 1 ≤ 5952; omega
    | ⟨1, _⟩ => show 0 + 16 ≤ 16; omega⟩
  rw [Host.dynamicSlice_eq_extractStridedSlice S1x16 (tabA V) _ ![k, 0] _ hs (fun a => by
    match a with
    | ⟨0, _⟩ => show (ctr V _).toInt = _; rw [hc]; exact toInt_ofNat_of_lt (by omega)
    | ⟨1, _⟩ => rfl)]
  pointwise

/-- The atom the trip places. -/
theorem Inv.atom {θ : Fin 16 → ℕ → ℕ → ℝ} {k : ℕ} (h : Inv V θ k) (hk : k < 5952) (b : Fin 16) :
    RowAt b (res_main_while0b_v89 V) (run (bonds (θ b)) 0 (k + 1)).t := by
  obtain ⟨a, a', ha, hb, hc, hr⟩ := h.last b
  have h60 : RowAt b (res_main_while0b_v60 V) a' := hb.congr (v60_apply V)
  have h62 : RowAt b (res_main_while0b_v62 V) (run (bonds (θ b)) 0 k).t := hc.congr (v62_apply V)
  have hu : RowAt b (res_main_while0b_v66 V) (run (bonds (θ b)) 0 k).u := by
    have := (h62.sub h60).normed hr.usq.1
    rw [hr.usq.2] at this
    exact this
  have hn : RowAt b (res_main_while0b_v71 V) (run (bonds (θ b)) 0 k).n := by
    have := ((h60.sub (ha.congr (oldest V))).cross hu).normed hr.nsq.1
    rw [hr.nsq.2] at this
    exact this
  have hm := hn.cross hu
  rw [← hr.frame.hm] at hm
  have hd : RowAt b (offset _ (res_main_while0b_v55 V) (res_main_while0b_v56 V)) (bonds (θ b) k).pos :=
    offset_at (e := bonds (θ b) k) (fun i => (entry_at hk h.ctr (tabX V) i).trans (h.x ⟨k, hk⟩))
      (fun i => (entry_at hk h.ctr (tabS V) i).trans (h.s ⟨k, hk⟩)) ((angle_at hk h.ctr).trans (h.φ ⟨k, hk⟩ b))
  have := h62.placed hu hm hn hd
  rw [run, Nat.zero_add]
  exact this

/-- One trip shifts the three carried atoms. -/
theorem last_step : last (STEP V) = concatenate S3x16x3 0
    [⟨S1x16x3, broadcastInDim S1x16x3 ![1, 2] bcast_S16x3_S1x16x3_1_2 (res_main_while0b_v60 V : FVec Ideal S16x3 .f32)⟩,
      ⟨S1x16x3, broadcastInDim S1x16x3 ![1, 2] bcast_S16x3_S1x16x3_1_2 (res_main_while0b_v62 V : FVec Ideal S16x3 .f32)⟩,
      ⟨S1x16x3, broadcastInDim S1x16x3 ![1, 2] bcast_S16x3_S1x16x3_1_2 (res_main_while0b_v89 V : FVec Ideal S16x3 .f32)⟩]
    concatenates_S1x16x3_S1x16x3_S1x16x3_S3x16x3_d0 :=
  STEP_main_v49_4 V

/-- One trip writes one atom. -/
theorem sofar_step : sofar (STEP V) = Host.dynamicUpdateSlice (sofar V)
    (broadcastInDim S1x16x3 ![1, 2] bcast_S16x3_S1x16x3_1_2 (res_main_while0b_v89 V : FVec Ideal S16x3 .f32))
    (fun k => (((![ctr V, constantI S_ 32 0#32, constantI S_ 32 0#32] : Fin 3 → IVec S_ 32)) k (Shape.Idx.first h_S_)).toInt)
    updateFits_S5952x16x3_S1x16x3 :=
  STEP_main_v49_5 V

/-- The stack after a trip: the two newer atoms of the one before, and the new one. -/
theorem stack_step (j : Fin 3) : plane (last (STEP V)) 0 (ix2 b j) = plane (last V) 1 (ix2 b j)
    ∧ plane (last (STEP V)) 1 (ix2 b j) = plane (last V) 2 (ix2 b j)
    ∧ plane (last (STEP V)) 2 (ix2 b j) = (res_main_while0b_v89 V : FVec Ideal S16x3 .f32) (ix2 b j) := by
  rw [← v60_apply, ← v62_apply, last_step]
  refine ⟨?_, ?_, ?_⟩ <;> unfold plane <;> pointwise

/-- The atoms so far after a trip: the new one in its place, the others kept. -/
theorem sofar_at {k : ℕ} (hk : k < 5952) (hc : ctr V = fun _ => BitVec.ofNat 32 k) (s : Fin 5952) (j : Fin 3) :
    plane (sofar (STEP V)) s (ix2 b j)
      = if s.val = k then (res_main_while0b_v89 V : FVec Ideal S16x3 .f32) (ix2 b j) else plane (sofar V) s (ix2 b j) := by
  have hs : S5952x16x3.Slices ![k, 0, 0] S1x16x3 := ⟨rfl, fun a => by
    match a with
    | ⟨0, _⟩ => show k + 1 ≤ 5952; omega
    | ⟨1, _⟩ => show 0 + 16 ≤ 16; omega
    | ⟨2, _⟩ => show 0 + 3 ≤ 3; omega⟩
  rw [sofar_step, WordCmp.dynamicUpdateSlice_eq_update _ _ _ _ ![k, 0, 0] hs (fun a => by
    match a with
    | ⟨0, _⟩ => show (ctr V _).toInt = _; rw [hc]; exact toInt_ofNat_of_lt (by omega)
    | ⟨1, _⟩ => rfl
    | ⟨2, _⟩ => rfl)]
  unfold plane
  pointwise
  by_cases e : s.val = k
  · rw [if_pos e, dif_pos (by omega)]
  · rw [if_neg e, dif_neg (by omega)]

/-- One trip keeps what the carried contents say. -/
theorem Inv.step {θ : Fin 16 → ℕ → ℕ → ℝ} {k : ℕ} (h : Inv V θ k) (hk : k < 5952) : Inv (STEP V) θ (k + 1) where
  ctr := by
    have e : RefStep.ctr (STEP V) = addi (RefStep.ctr V) (constantI S_ 32 1#32) := STEP_main_v49_3 V
    rw [e, h.ctr]
    funext i
    exact BitVec.ofNat_add_ofNat k 1
  x s := (congrFun (STEP_main_v49_0 V) (ix1 s)).trans (h.x s)
  s s := (congrFun (STEP_main_v49_1 V) (ix1 s)).trans (h.s s)
  φ s b := (congrFun (STEP_main_v49_2 V) (ix2 s b)).trans (h.φ s b)
  last b := by
    have hd := h.atom hk b
    obtain ⟨a, a', ha, hb, hc, hr⟩ := h.last b
    have hr' := hr.step (e := bonds (θ b) (0 + k)) (around_pos _)
    exact ⟨_, _, hb.congr fun j => (stack_step j).1, hc.congr fun j => (stack_step j).2.1, hd.congr fun j => (stack_step j).2.2, hr'⟩
  out s hs b := by
    by_cases e : s.val = k
    · rw [e]
      exact (h.atom hk b).congr fun j => (sofar_at hk h.ctr s j).trans (if_pos e)
    · exact (h.out s (by omega) b).congr fun j => (sofar_at hk h.ctr s j).trans (if_neg e)

/-- After `n` trips. -/
theorem Inv.steps {θ : Fin 16 → ℕ → ℕ → ℝ} (h : Inv V θ 0) : ∀ n ≤ 5952, Inv (STEP^[n] V) θ n
  | 0, _ => h
  | n + 1, hn => by
    rw [Function.iterate_succ_apply']
    exact (h.steps n (by omega)).step (by omega)

/-- Contents that agree on every buffer the loop carries say the same. -/
theorem Inv.congr {θ : Fin 16 → ℕ → ℕ → ℝ} {k : ℕ} {V' : Valuation τ sig (Elt Ideal)} (h : Inv V θ k) (e : Agree V' V) : Inv V' θ k := by
  have e0 : tabX V' = tabX V := e main_v49_0 (by decide)
  have e1 : tabS V' = tabS V := e main_v49_1 (by decide)
  have e2 : tabA V' = tabA V := e main_v49_2 (by decide)
  have e3 : RefStep.ctr V' = RefStep.ctr V := e main_v49_3 (by decide)
  have e4 : RefStep.last V' = RefStep.last V := e main_v49_4 (by decide)
  have e5 : sofar V' = sofar V := e main_v49_5 (by decide)
  obtain ⟨h3, h0, h1, h2, h4, h5⟩ := h
  constructor
  · rwa [e3]
  · rwa [e0]
  · rwa [e1]
  · rwa [e2]
  · rwa [e4]
  · rwa [e5]

end Cert.RefStep

end
-- ==== Proof.RefEntry.lean ====
/- What the reference has before its loop, over the extended reals. -/
module

public import proofs.«01_k».proof.Proof.RefStep
public import Idealize.ShloMosaic.Lib.Routing.Words
public import Idealize.ShloMosaic.Lib.ValueIdxCore

@[expose] public section

noncomputable section

namespace Cert.RefStep

open Idealize.ShloMosaic Idealize.ShloMosaic.TcCoe Idealize.ShloMosaic.StableHlo
open Cert.ReferenceIdeal Cert.ReferenceIdeal.Gen Cert.ReferenceIdeal.Value Cert.Chain
open Cert.Model (bonds along around around_pos)

/-- The lengths of the sequences. -/
def lens (cu : IVec S17 32) : IVec S16 32 :=
  subi (extractStridedSlice S16 ![1] cu slices_S17_S16_1) (extractStridedSlice S16 ![0] cu slices_S17_S16_0)

/-- The residue's number, in every sequence. -/
def resid : IVec S1984x1 32 := broadcastInDim S1984x1 ![0] bcast_S1984_S1984x1_0 (iotaInDim S1984 32 0)

/-- Where a residue's token stands, kept inside the array of tokens. -/
def place (cu : IVec S17 32) : IVec S1984x16 32 :=
  minsi (broadcastInDim S1984x16 ![] bcast_S_S1984x16 (constantI S_ 32 16383#32))
    (maxsi (broadcastInDim S1984x16 ![] bcast_S_S1984x16 (constantI S_ 32 0#32))
      (addi (broadcastInDim S1984x16 ![0, 1] bcast_S1984x1_S1984x16_0_1 resid)
        (broadcastInDim S1984x16 ![0, 1] bcast_S1x16_S1984x16_0_1
          (broadcastInDim S1x16 ![1] bcast_S16_S1x16_1 (extractStridedSlice S16 ![0] cu slices_S17_S16_0)))))

/-- The same place, counted from the end where it is negative. -/
def wrapped (p : IVec S1984x16 32) : IVec S1984x16 32 :=
  select (cmpi .slt p (broadcastInDim S1984x16 ![] bcast_S_S1984x16 (constantI S_ 32 0#32)))
    (addi p (broadcastInDim S1984x16 ![] bcast_S_S1984x16 (constantI S_ 32 16384#32))) p

/-- The padded tokens. -/
def tokens (tk : IVec S16384 32) (cu : IVec S17 32) : IVec S1984x16 32 :=
  select (cmpi .slt (broadcastInDim S1984x16 ![0, 1] bcast_S1984x1_S1984x16_0_1 resid)
      (broadcastInDim S1984x16 ![0, 1] bcast_S1x16_S1984x16_0_1 (broadcastInDim S1x16 ![1] bcast_S16_S1x16_1 (lens cu))))
    (Host.gather gather_S16384_S1984x16x1_S1984x16_n_0_n_n_0_2_1 tk
      (broadcastInDim S1984x16x1 ![0, 1] bcast_S1984x16_S1984x16x1_0_1 (wrapped (place cu))))
    (broadcastInDim S1984x16 ![] bcast_S_S1984x16 (constantI S_ 32 0#32))

/-- One where the column is the token's, zero elsewhere. -/
def hot (t : IVec S1984x16 32) : FVec Ideal S1984x16x21 .f32 :=
  uitofp .f32 (cmpi .eq
    (broadcastInDim S1984x16x21 ![0, 1, 2] bcast_S1984x16x1_S1984x16x21_0_1_2 (broadcastInDim S1984x16x1 ![0, 1] bcast_S1984x16_S1984x16x1_0_1 t))
    (broadcastInDim S1984x16x21 ![0, 1, 2] bcast_S1x1x21_S1984x16x21_0_1_2 (iotaInDim S1x1x21 32 2)))

/-- The torsion angles. -/
def angles (tk : IVec S16384 32) (cu : IVec S17 32) (W : FVec Ideal S21x3 .f32) (bias : FVec Ideal S3 .f32) : FVec Ideal S1984x16x3 .f32 :=
  mulf (broadcastInDim S1984x16x3 ![] bcast_S_S1984x16x3 (constant S_ .f32 0x40490FDB#32))
    (Host.tanh (addf (Host.dotGeneral dot_S1984x16x21_S21x3_S1984x16x3_2_0_01_1_n_n none (hot (tokens tk cu)) W)
      (broadcastInDim S1984x16x3 ![0, 1, 2] bcast_S1x1x3_S1984x16x3_0_1_2 (broadcastInDim S1x1x3 ![2] bcast_S3_S1x1x3_2 bias))))

section Reads

variable (m : (ℓ : Loc nD τ sig) → Buf (Elt Ideal) ℓ) (c : Dev nD)

/-- The contents before the loop. -/
abbrev E : Valuation τ sig (Elt Ideal) := entryContents preI m c

/-- The torsion angles of the launch's arguments. -/
def ang : FVec Ideal S1984x16x3 .f32 :=
  angles (m ((c : Thread nD τ).loc main_arg0)) (m ((c : Thread nD τ).loc main_arg1)) (m ((c : Thread nD τ).loc main_arg2))
    (m ((c : Thread nD τ).loc main_arg3))

/-- The first result before the loop. -/
theorem entry_v31 : E m c (Proc.devRef .tc main_v31) = shapeCast S1984x48 (ang m c) shapeCasts_S1984x16x3_S1984x48 := by
  simp only [E, entryContents, afterL_cons, afterL_nil]
  after_reads_simp
  rfl

/-- The third result before the loop. -/
theorem entry_v32 : E m c (Proc.devRef .tc main_v32) = shapeCast S1x16 (lens (m ((c : Thread nD τ).loc main_arg1))) shapeCasts_S16_S1x16 := by
  simp only [E, entryContents, afterL_cons, afterL_nil]
  after_reads_simp
  rfl

/-- The table of offsets along the bond. -/
theorem entry_tabX : tabX (E m c) = shapeCast S5952 (broadcastInDim S1984x3 ![0, 1] bcast_S1x3_S1984x3_0_1
    (shapeCast S1x3 (fun i => Ideal.ofBits .f32 (lit0 (S3.rowMajor i)) : FVec Ideal S3 .f32) shapeCasts_S3_S1x3)) shapeCasts_S1984x3_S5952 := by
  simp only [tabX, E, entryContents, afterL_cons, afterL_nil]
  after_reads_simp
  rfl

/-- The table of offsets across the bond. -/
theorem entry_tabS : tabS (E m c) = shapeCast S5952 (broadcastInDim S1984x3 ![0, 1] bcast_S1x3_S1984x3_0_1
    (shapeCast S1x3 (fun i => Ideal.ofBits .f32 (lit1 (S3.rowMajor i)) : FVec Ideal S3 .f32) shapeCasts_S3_S1x3)) shapeCasts_S1984x3_S5952 := by
  simp only [tabS, E, entryContents, afterL_cons, afterL_nil]
  after_reads_simp
  rfl

/-- The table of torsion angles. -/
theorem entry_tabA : tabA (E m c) = shapeCast S5952x16 (transpose S1984x3x16 [0, 2, 1] (ang m c) transposes_S1984x16x3_S1984x3x16_0_2_1)
    shapeCasts_S1984x3x16_S5952x16 := by
  simp only [tabA, E, entryContents, afterL_cons, afterL_nil]
  after_reads_simp
  rfl

/-- The three atoms the chain starts from. -/
theorem entry_last : last (E m c) = concatenate S3x16x3 0
    [⟨S1x16x3, broadcastInDim S1x16x3 ![1, 2] bcast_S16x3_S1x16x3_1_2 (broadcastInDim S16x3 ![1] bcast_S3_S16x3_1
        (fun i => Ideal.ofBits .f32 (lit2 (S3.rowMajor i)) : FVec Ideal S3 .f32))⟩,
      ⟨S1x16x3, broadcastInDim S1x16x3 ![1, 2] bcast_S16x3_S1x16x3_1_2 (broadcastInDim S16x3 ![1] bcast_S3_S16x3_1
        (fun i => Ideal.ofBits .f32 (lit3 (S3.rowMajor i)) : FVec Ideal S3 .f32))⟩,
      ⟨S1x16x3, broadcastInDim S1x16x3 ![1, 2] bcast_S16x3_S1x16x3_1_2 (broadcastInDim S16x3 ![] bcast_S_S16x3
        (constant S_ .f32 0x00000000#32 : FVec Ideal S_ .f32))⟩]
    concatenates_S1x16x3_S1x16x3_S1x16x3_S3x16x3_d0 := by
  simp only [last, E, entryContents, afterL_cons, afterL_nil]
  after_reads_simp
  rfl

end Reads

variable (tk : IVec S16384 32) (cu : IVec S17 32) (W : FVec Ideal S21x3 .f32) (bias : FVec Ideal S3 .f32)

/-- A sum of a position and an offset kept between zero and the last token, in words. -/
theorem kept_word (l S : ℕ) (hl : l < 1984) (hS : S ≤ 16384) :
    IntOp.minsi 16383#32 (IntOp.maxsi 0#32 (IntOp.addi (BitVec.ofNat 32 l) (BitVec.ofNat 32 S))) = BitVec.ofNat 32 (min (S + l) 16383) := by
  have h1 : IntOp.addi (BitVec.ofNat 32 l) (BitVec.ofNat 32 S) = BitVec.ofNat 32 (S + l) :=
    (BitVec.ofNat_add_ofNat l S).trans (by rw [Nat.add_comm])
  have h2 : IntOp.maxsi 0#32 (BitVec.ofNat 32 (S + l)) = BitVec.ofNat 32 (S + l) := by
    unfold IntOp.maxsi
    rw [show (0#32 : BitVec 32) = BitVec.ofNat 32 0 from rfl, Routing.slt_ofNat32 (by omega) (by omega)]
    rw [if_neg (by simp)]
  rw [h1, h2]
  unfold IntOp.minsi
  rw [show (16383#32 : BitVec 32) = BitVec.ofNat 32 16383 from rfl, Routing.slt_ofNat32 (by omega) (by omega)]
  by_cases h : 16383 < S + l
  · rw [if_pos (by simpa using h), Nat.min_eq_right (by omega)]
  · rw [if_neg (by simpa using h), Nat.min_eq_left (by omega)]

/-- A number that is not negative is not counted from the end. -/
theorem wrap_word (n : ℕ) (hn : n < 16384) (a : BitVec 32) :
    Scalar.select (IntOp.cmpi .slt (BitVec.ofNat 32 n) 0#32) a (BitVec.ofNat 32 n) = BitVec.ofNat 32 n := by
  unfold Scalar.select IntOp.cmpi
  rw [show (0#32 : BitVec 32) = BitVec.ofNat 32 0 from rfl]
  simp only [Routing.slt_ofNat32 (a := n) (b := 0) (by omega) (by omega)]
  simp

/-- The place of a token, as a number. -/
theorem wrapped_at (l : Fin 1984) (b : Fin 16) (S : ℕ) (hS : S ≤ 16384)
    (eS : cu (ix1 (⟨b.val, by omega⟩ : Fin 17)) = BitVec.ofNat 32 S) :
    wrapped (place cu) (ix2 l b) = BitVec.ofNat 32 (min (S + l.val) 16383) := by
  have e : place cu (ix2 l b) = BitVec.ofNat 32 (min (S + l.val) 16383) := by
    rw [← kept_word l.val S l.isLt hS, ← eS]
    unfold place resid
    pointwise
  unfold wrapped
  pointwise
  rw [e]
  exact wrap_word _ (by omega) _

/-- A length is the difference of two offsets. -/
theorem lens_at (b : Fin 16) :
    lens cu (ix1 b) = cu (ix1 (⟨b.val + 1, by omega⟩ : Fin 17)) - cu (ix1 (⟨b.val, by omega⟩ : Fin 17)) := by
  unfold lens
  pointwise
  simp only [Nat.add_comm 1]
  rfl

/-- The padded tokens. -/
theorem tokens_at (hc : ∀ j : Fin 17, (cu (ix1 j)).toNat ≤ 16384) (l : Fin 1984) (b : Fin 16) :
    tokens tk cu (ix2 l b) = Spec.token tk cu b l.val := by
  obtain ⟨S, hS, eS⟩ : ∃ S ≤ 16384, cu (ix1 (⟨b.val, by omega⟩ : Fin 17)) = BitVec.ofNat 32 S :=
    ⟨_, hc ⟨b.val, by omega⟩, by simp⟩
  have hg : Host.gather gather_S16384_S1984x16x1_S1984x16_n_0_n_n_0_2_1 tk
      (broadcastInDim S1984x16x1 ![0, 1] bcast_S1984x16_S1984x16x1_0_1 (wrapped (place cu))) (ix2 l b)
      = tk (ix1 (⟨min (S + l.val) 16383, by omega⟩ : Fin 16384)) := by
    refine (ValueIdx.gather_take_apply (by decide) gather_S16384_S1984x16x1_S1984x16_n_0_n_n_0_2_1_wf tk _ (ix2 l b)).trans ?_
    refine congrArg tk (congrArg ix1 (Fin.ext ?_))
    have e : broadcastInDim S1984x16x1 ![0, 1] bcast_S1984x16_S1984x16x1_0_1 (wrapped (place cu)) (ValueIdx.takeIdx (ix2 l b))
        = BitVec.ofNat 32 (min (S + l.val) 16383) := by
      rw [← wrapped_at cu l b S hS eS]
      pointwise
    show min (BitVec.toInt _).toNat (16384 - 1) = min (S + l.val) 16383
    rw [e, toInt_ofNat_of_lt (by omega)]
    omega
  have hr : resid (ix2 l 0) = BitVec.ofNat 32 l.val := by
    unfold resid
    pointwise
  unfold tokens
  pointwise
  rw [hg, hr, lens_at]
  unfold Spec.token Scalar.select IntOp.cmpi
  have e : min ((cu (ix1 (⟨b.val, by omega⟩ : Fin 17))).toNat + l.val) 16383 = min (S + l.val) 16383 := by
    rw [eS, BitVec.toNat_ofNat, Nat.mod_eq_of_lt (by omega)]
  simp only [e]
  by_cases h : (BitVec.ofNat 32 l.val).slt (cu (ix1 (⟨b.val + 1, by omega⟩ : Fin 17)) - cu (ix1 (⟨b.val, by omega⟩ : Fin 17)))
  · simp [h]
  · simp [h]

/-- A one-hot row is one at its token and zero elsewhere. -/
theorem hot_at (t : IVec S1984x16 32) (l : Fin 1984) (b : Fin 16) (k : Fin 21) :
    (hot t (ix3 l b k) : EReal) = if (t (ix2 l b)).toNat = k.val then 1 else 0 := by
  unfold hot
  pointwise
  by_cases h : (t (ix2 l b)).toNat = k.val
  · have e : t (ix2 l b) = BitVec.ofNat 32 k.val := BitVec.eq_of_toNat_eq (by rw [BitVec.toNat_ofNat]; omega)
    rw [if_pos h, e]
    show ((((IntOp.cmpi .eq (BitVec.ofNat 32 k.val) (BitVec.ofNat 32 k.val)).toNat : ℝ)) : EReal) = 1
    unfold IntOp.cmpi
    simp
  · have e : (t (ix2 l b) == BitVec.ofNat 32 k.val) = false := beq_eq_false_iff_ne.mpr fun e => h (by
      rw [e, BitVec.toNat_ofNat]; omega)
    rw [if_neg h]
    show ((((IntOp.cmpi .eq (t (ix2 l b)) (BitVec.ofNat 32 k.val)).toNat : ℝ)) : EReal) = 0
    unfold IntOp.cmpi
    simp [e]

/-- A row of the one-hot array times the weights is the token's weight. -/
theorem pick_at (n : ℕ) (W : Fin 21 → EReal) : ∑ x : Fin 21, (if n = x.val then (1 : EReal) else 0) * W x = if h : n < 21 then W ⟨n, h⟩ else 0 := by
  split
  · rename_i h
    rw [Finset.sum_eq_single (⟨n, h⟩ : Fin 21)]
    · rw [if_pos rfl, one_mul]
    · intro x _ hx
      rw [if_neg (fun e => hx (Fin.ext e.symm)), zero_mul]
    · exact fun h => absurd (Finset.mem_univ _) h
  · rename_i h
    refine Finset.sum_eq_zero fun x _ => ?_
    rw [if_neg (by omega), zero_mul]

/-- The torsion angles are the ones stated. -/
theorem angles_at (hc : ∀ j : Fin 17, (cu (ix1 j)).toNat ≤ 16384) (l : Fin 1984) (b : Fin 16) (k : Fin 3) :
    angles tk cu W bias (ix3 l b k) = ((Spec.theta tk cu W bias b l.val k.val : ℝ) : EReal) := by
  have e : (∑ x : Fin 21, (hot (tokens tk cu) (ix3 l b x) : EReal) * W (ix2 x k))
      = if h : (Spec.token tk cu b l.val).toNat < 21 then (W (ix2 (⟨(Spec.token tk cu b l.val).toNat, h⟩ : Fin 21) k) : EReal) else 0 := by
    simp only [hot_at, tokens_at tk cu hc]
    exact pick_at _ fun x => W (ix2 x k)
  rw [← Spec.theta_eq]
  unfold angles
  pointwise
  unfold Spec.logit
  rw [← e]

end Cert.RefStep

end
-- ==== Proof.RefRun.lean ====
/- What the reference leaves, over the extended reals. -/
module

public import proofs.«01_k».proof.Proof.RefEntry

@[expose] public section

noncomputable section

namespace Cert.RefStep

open Idealize.ShloMosaic Idealize.ShloMosaic.TcCoe Idealize.ShloMosaic.StableHlo
open Cert.ReferenceIdeal Cert.ReferenceIdeal.Gen Cert.ReferenceIdeal.Value Cert.Chain
open Cert.Model (bonds along around around_pos)

section Entry

/-- A table of three numbers, by the kind of atom. -/
theorem tiled_at (w : FVec Ideal S3 .f32) (s : Fin 5952) : shapeCast S5952 (broadcastInDim S1984x3 ![0, 1] bcast_S1x3_S1984x3_0_1
    (shapeCast S1x3 w shapeCasts_S3_S1x3)) shapeCasts_S1984x3_S5952 (ix1 s) = w (ix1 (⟨s.val % 3, by omega⟩ : Fin 3)) := by
  pointwise

/-- The constants along the bond are the chain's. -/
theorem lit0_at (k : Fin 3) : (fun i => Ideal.ofBits .f32 (lit0 (S3.rowMajor i)) : FVec Ideal S3 .f32) (ix1 k) = ((along k.val : ℝ) : EReal) := by
  rw [← Cert.Model.bondX_at]
  match k with
  | ⟨0, _⟩ => pointwise; rfl
  | ⟨1, _⟩ => pointwise; rfl
  | ⟨2, _⟩ => pointwise; rfl

/-- The constants across the bond are the chain's. -/
theorem lit1_at (k : Fin 3) : (fun i => Ideal.ofBits .f32 (lit1 (S3.rowMajor i)) : FVec Ideal S3 .f32) (ix1 k) = ((around k.val : ℝ) : EReal) := by
  rw [← Cert.Model.bondS_at]
  match k with
  | ⟨0, _⟩ => pointwise; rfl
  | ⟨1, _⟩ => pointwise; rfl
  | ⟨2, _⟩ => pointwise; rfl

/-- The angles in the order of the atoms. -/
theorem rows_of_angles (a : FVec Ideal S1984x16x3 .f32) (s : Fin 5952) (b : Fin 16) :
    shapeCast S5952x16 (transpose S1984x3x16 [0, 2, 1] a transposes_S1984x16x3_S1984x3x16_0_2_1) shapeCasts_S1984x3x16_S5952x16 (ix2 s b)
      = a (ix3 (⟨s.val / 3, by omega⟩ : Fin 1984) b (⟨s.val % 3, by omega⟩ : Fin 3)) := by
  pointwise

/-- Each of the three starting atoms read off their stack. -/
theorem start_rows (x y z : FVec Ideal S16x3 .f32) (b : Fin 16) (j : Fin 3) :
    let w : FVec Ideal S3x16x3 .f32 := concatenate S3x16x3 0
      [⟨S1x16x3, broadcastInDim S1x16x3 ![1, 2] bcast_S16x3_S1x16x3_1_2 x⟩,
        ⟨S1x16x3, broadcastInDim S1x16x3 ![1, 2] bcast_S16x3_S1x16x3_1_2 y⟩,
        ⟨S1x16x3, broadcastInDim S1x16x3 ![1, 2] bcast_S16x3_S1x16x3_1_2 z⟩]
      concatenates_S1x16x3_S1x16x3_S1x16x3_S3x16x3_d0
    plane w 0 (ix2 b j) = x (ix2 b j) ∧ plane w 1 (ix2 b j) = y (ix2 b j) ∧ plane w 2 (ix2 b j) = z (ix2 b j) := by
  refine ⟨?_, ?_, ?_⟩ <;> unfold plane <;> pointwise

/-- The first starting atom. -/
theorem start_a (b : Fin 16) : RowAt b (broadcastInDim S16x3 ![1] bcast_S3_S16x3_1 (fun i => Ideal.ofBits .f32 (lit2 (S3.rowMajor i)) : FVec Ideal S3 .f32)) ⟨-2, 1, 0⟩ := by
  constructor <;> pointwise
  · exact Cert.Model.ofBits_neg_two
  · exact Ideal.ofBits_one_f32
  · exact Ideal.ofBits_zero_f32

/-- The second starting atom. -/
theorem start_b (b : Fin 16) : RowAt b (broadcastInDim S16x3 ![1] bcast_S3_S16x3_1 (fun i => Ideal.ofBits .f32 (lit3 (S3.rowMajor i)) : FVec Ideal S3 .f32)) ⟨-1, 0, 0⟩ := by
  constructor <;> pointwise
  · exact Cert.Model.ofBits_neg_one
  · exact Ideal.ofBits_zero_f32
  · exact Ideal.ofBits_zero_f32

/-- The third starting atom. -/
theorem start_c (b : Fin 16) : RowAt b (broadcastInDim S16x3 ![] bcast_S_S16x3 (constant S_ .f32 0x00000000#32 : FVec Ideal S_ .f32)) ⟨0, 0, 0⟩ := by
  constructor <;> pointwise <;> exact EReal.coe_zero.symm

end Entry

variable (m : (ℓ : Loc nD τ sig) → Buf (Elt Ideal) ℓ) (c : Dev nD)

/-- The torsion angles the arguments give. -/
def θs : Fin 16 → ℕ → ℕ → ℝ :=
  Spec.theta (m ((c : Thread nD τ).loc main_arg0)) (m ((c : Thread nD τ).loc main_arg1)) (m ((c : Thread nD τ).loc main_arg2))
    (m ((c : Thread nD τ).loc main_arg3))

variable (hc : ∀ j : Fin 17, ((m ((c : Thread nD τ).loc main_arg1) : Vec Ideal S17 .i32) (ix1 j)).toNat ≤ 16384)
include hc

/-- The angles before the loop are real and the ones stated. -/
theorem ang_at (l : Fin 1984) (b : Fin 16) (k : Fin 3) : ang m c (ix3 l b k) = ((θs m c b l.val k.val : ℝ) : EReal) :=
  angles_at _ _ _ _ hc l b k

/-- Before the loop. -/
theorem inv_entry : Inv (E m c) (θs m c) 0 where
  ctr := ctr_entry m c
  x s := by rw [entry_tabX, tiled_at]; exact lit0_at _
  s s := by rw [entry_tabS, tiled_at]; exact lit1_at _
  φ s b := by rw [entry_tabA, rows_of_angles, ang_at m c hc]
  last b := by
    rw [entry_last]
    exact ⟨_, _, (start_a b).congr fun j => (start_rows _ _ _ b j).1, (start_b b).congr fun j => (start_rows _ _ _ b j).2.1,
      (start_c b).congr fun j => (start_rows _ _ _ b j).2.2, Rep.start⟩
  out s hs := absurd hs (Nat.not_lt_zero _)

/-- After the loop. -/
theorem inv_final : Inv (atK m 5952 c) (θs m c) 5952 :=
  ((inv_entry m c hc).steps 5952 (le_refl _)).congr (atK_agree m c 5952)

end Cert.RefStep

end
-- ==== Proof.RefFinal.lean ====
/- What the reference ends with: its three results and its arguments, over the extended reals. -/
module

public import proofs.«01_k».proof.Proof.RefRun
public import Idealize.ShloMosaic.Lib.Quiescent
public import Idealize.ShloMosaic.Lib.Claim

@[expose] public section

noncomputable section

namespace Cert.RefStep

open Idealize.ShloMosaic Idealize.ShloMosaic.TcCoe Idealize.ShloMosaic.StableHlo
open Cert.ReferenceIdeal Cert.ReferenceIdeal.Gen Cert.ReferenceIdeal.Value Cert.Chain
open Cert.Model (pick)

section Keep

variable {r : Ref sig .tc}

/-- A stretch list none of whose stretches changes a buffer leaves it. -/
theorem afterL_keeps (L : List (List (HloOp τ sig (Elt Ideal))))
    (h : ∀ ops ∈ L, ∀ V : Valuation τ sig (Elt Ideal), after ops V (Proc.devRef .tc r) = V (Proc.devRef .tc r)) :
    ∀ V : Valuation τ sig (Elt Ideal), afterL L V (Proc.devRef .tc r) = V (Proc.devRef .tc r) := by
  induction L with
  | nil => intro V; rfl
  | cons ops L ih =>
    intro V
    rw [afterL_cons, ih (fun o ho => h o (List.mem_cons_of_mem _ ho)), h ops List.mem_cons_self]

/-- The buffers the loop writes. -/
abbrev loopW : List (List (Ref sig .tc)) :=
  [condOps_W, while0Ops0_W, while0Ops0_1_W, while0Ops0_2_W, while0Ops0_3_W, while0Ops0_4_W, while0Ops0_5_W, while0Ops0_6_W, while0Ops0_7_W,
    while0Ops0_8_W, while0Ops0_9_W, while0Ops0_10_W, while0Ops0_11_W, while0Ops0_12_W]

/-- The buffers written before the loop. -/
abbrev preW : List (List (Ref sig .tc)) := [hostOps0_W, hostOps0_1_W, hostOps0_2_W, hostOps0_3_W, hostOps0_4_W, hostOps0_5_W]

/-- The loop's body leaves every other buffer. -/
theorem body_keeps (h : r ∉ loopW.flatten) (V : Valuation τ sig (Elt Ideal)) :
    afterL bodyI V (Proc.devRef .tc r) = V (Proc.devRef .tc r) := by
  simp only [loopW, List.flatten_cons, List.flatten_nil, List.append_nil, List.mem_append, not_or] at h
  obtain ⟨-, h0, h1, h2, h3, h4, h5, h6, h7, h8, h9, h10, h11, h12⟩ := h
  refine afterL_keeps bodyI ?_ V
  simp only [bodyI, List.forall_mem_cons]
  exact ⟨fun V => after_of_writes_sub _ V while0Ops0_writes h0, fun V => after_of_writes_sub _ V while0Ops0_1_writes h1,
    fun V => after_of_writes_sub _ V while0Ops0_2_writes h2, fun V => after_of_writes_sub _ V while0Ops0_3_writes h3,
    fun V => after_of_writes_sub _ V while0Ops0_4_writes h4, fun V => after_of_writes_sub _ V while0Ops0_5_writes h5,
    fun V => after_of_writes_sub _ V while0Ops0_6_writes h6, fun V => after_of_writes_sub _ V while0Ops0_7_writes h7,
    fun V => after_of_writes_sub _ V while0Ops0_8_writes h8, fun V => after_of_writes_sub _ V while0Ops0_9_writes h9,
    fun V => after_of_writes_sub _ V while0Ops0_10_writes h10, fun V => after_of_writes_sub _ V while0Ops0_11_writes h11,
    fun V => after_of_writes_sub _ V while0Ops0_12_writes h12, fun _ h => absurd h List.not_mem_nil⟩

/-- The stretches before the loop leave every buffer they do not write. -/
theorem pre_keeps (h : r ∉ preW.flatten) (V : Valuation τ sig (Elt Ideal)) :
    afterL preI V (Proc.devRef .tc r) = V (Proc.devRef .tc r) := by
  simp only [preW, List.flatten_cons, List.flatten_nil, List.append_nil, List.mem_append, not_or] at h
  obtain ⟨h0, h1, h2, h3, h4, h5⟩ := h
  refine afterL_keeps preI ?_ V
  simp only [preI, List.forall_mem_cons]
  exact ⟨fun V => after_of_writes_sub _ V hostOps0_writes h0, fun V => after_of_writes_sub _ V hostOps0_1_writes h1,
    fun V => after_of_writes_sub _ V hostOps0_2_writes h2, fun V => after_of_writes_sub _ V hostOps0_3_writes h3,
    fun V => after_of_writes_sub _ V hostOps0_4_writes h4, fun V => after_of_writes_sub _ V hostOps0_5_writes h5,
    fun _ h => absurd h List.not_mem_nil⟩

variable (m : (ℓ : Loc nD τ sig) → Buf (Elt Ideal) ℓ) (c : Dev nD)

/-- The condition leaves every buffer outside the loop's. -/
theorem cond_keeps_ref (h : r ∉ loopW.flatten) (V : Valuation τ sig (Elt Ideal)) :
    after condOps V (Proc.devRef .tc r) = V (Proc.devRef .tc r) :=
  after_of_writes_sub condOps V condOps_writes fun h' => h (List.mem_flatten.mpr ⟨condOps_W, List.mem_cons_self, h'⟩)

/-- A buffer the loop does not write holds at every trip what it held at the loop's entry. -/
theorem atK_keeps (h : r ∉ loopW.flatten) : ∀ k, atK m k c (Proc.devRef .tc r) = E m c (Proc.devRef .tc r)
  | 0 => rfl
  | k + 1 => by
    rw [show atK m (k + 1) c = afterL bodyI (after condOps (atK m k c)) from rfl, body_keeps h, cond_keeps_ref h, atK_keeps h k]

/-- A buffer written neither in the loop nor after it ends as it entered the loop. -/
theorem final_keeps (h : r ∉ loopW.flatten) (h6 : r ∉ hostOps0_6_W) :
    finalContents condOps preI bodyI postI 5952 m c (Proc.devRef .tc r) = E m c (Proc.devRef .tc r) := by
  show after hostOps0_6 (after condOps (atK m 5952 c)) (Proc.devRef .tc r) = _
  rw [after_of_writes_sub hostOps0_6 _ hostOps0_6_writes h6, cond_keeps_ref h, atK_keeps m c h]

/-- A buffer nothing writes ends as it began. -/
theorem final_arg (h : r ∉ loopW.flatten) (h6 : r ∉ hostOps0_6_W) (hp : r ∉ preW.flatten) :
    finalContents condOps preI bodyI postI 5952 m c (Proc.devRef .tc r) = m ((c : Thread nD τ).loc r) := by
  rw [final_keeps m c h h6]
  exact pre_keeps hp _

end Keep

section Results

variable (m : (ℓ : Loc nD τ sig) → Buf (Elt Ideal) ℓ) (ρ : Dev nD → PrngReg) (c : Dev nD)

/-- The second result is the loop's positions, the nine numbers of each residue of each sequence next to each other. -/
theorem final_v53_term : finalContents condOps preI bodyI postI 5952 m c (Proc.devRef .tc main_v53)
    = shapeCast S1984x144 (shapeCast S1984x16x9 (transpose S1984x16x3x3 [0, 2, 1, 3]
        (shapeCast S1984x3x16x3 (sofar (after condOps (atK m 5952 c)) : FVec Ideal S5952x16x3 .f32) shapeCasts_S5952x16x3_S1984x3x16x3)
        transposes_S1984x3x16x3_S1984x16x3x3_0_2_1_3) shapeCasts_S1984x16x3x3_S1984x16x9) shapeCasts_S1984x16x9_S1984x144 := by
  show after hostOps0_6 (after condOps (atK m 5952 c)) (Proc.devRef .tc main_v53) = _
  generalize after condOps (atK m 5952 c) = X
  after_results
  rfl

/-- Where an entry of the second result comes from. -/
theorem rows_of_atoms (x : FVec Ideal S5952x16x3 .f32) (l : Fin 1984) (q : Fin 144) :
    shapeCast S1984x144 (shapeCast S1984x16x9 (transpose S1984x16x3x3 [0, 2, 1, 3]
        (shapeCast S1984x3x16x3 x shapeCasts_S5952x16x3_S1984x3x16x3)
        transposes_S1984x3x16x3_S1984x16x3x3_0_2_1_3) shapeCasts_S1984x16x3x3_S1984x16x9) shapeCasts_S1984x16x9_S1984x144 (ix2 l q)
      = plane x (⟨3 * l.val + q.val / 3 % 3, by omega⟩ : Fin 5952) (ix2 (⟨q.val / 9, by omega⟩ : Fin 16) (⟨q.val % 3, by omega⟩ : Fin 3)) := by
  unfold plane
  pointwise
  simp only [Nat.mul_comm 3]

/-- Where an entry of the first result comes from. -/
theorem rows_of_residues (x : FVec Ideal S1984x16x3 .f32) (l : Fin 1984) (q : Fin 48) :
    shapeCast S1984x48 x shapeCasts_S1984x16x3_S1984x48 (ix2 l q)
      = x (ix3 l (⟨q.val / 3, by omega⟩ : Fin 16) (⟨q.val % 3, by omega⟩ : Fin 3)) := by
  pointwise

/-- The third result is the lengths. -/
theorem final_v32 : finalContents condOps preI bodyI postI 5952 m c (Proc.devRef .tc main_v32)
    = Spec.lengths (m ((c : Thread nD τ).loc main_arg1)) := by
  rw [final_keeps m c (by decide +kernel) (by decide +kernel), entry_v32]
  funext i
  obtain ⟨a, b, rfl⟩ : ∃ (a : Fin 1) (b : Fin 16), i = ix2 a b := ⟨i 0, i 1, by pointwise⟩
  refine Eq.trans ?_ (lens_at (m ((c : Thread nD τ).loc main_arg1)) b)
  pointwise

variable (hc : ∀ j : Fin 17, ((m ((c : Thread nD τ).loc main_arg1) : Vec Ideal S17 .i32) (ix1 j)).toNat ≤ 16384)
include hc

/-- The first result is the angles. -/
theorem final_v31 : finalContents condOps preI bodyI postI 5952 m c (Proc.devRef .tc main_v31)
    = Spec.emissions (m ((c : Thread nD τ).loc main_arg0)) (m ((c : Thread nD τ).loc main_arg1))
        (m ((c : Thread nD τ).loc main_arg2)) (m ((c : Thread nD τ).loc main_arg3)) := by
  rw [final_keeps m c (by decide +kernel) (by decide +kernel), entry_v31]
  funext i
  obtain ⟨a, b, rfl⟩ : ∃ (a : Fin 1984) (b : Fin 48), i = ix2 a b := ⟨i 0, i 1, by pointwise⟩
  exact (rows_of_residues _ a b).trans (ang_at m c hc _ _ _)

/-- The second result is the positions of the atoms. -/
theorem final_v53 : finalContents condOps preI bodyI postI 5952 m c (Proc.devRef .tc main_v53)
    = Spec.backbone (m ((c : Thread nD τ).loc main_arg0)) (m ((c : Thread nD τ).loc main_arg1))
        (m ((c : Thread nD τ).loc main_arg2)) (m ((c : Thread nD τ).loc main_arg3)) := by
  have hI : Inv (after condOps (atK m 5952 c)) (θs m c) 5952 := (inv_final m c hc).congr (cond_keeps _)
  rw [final_v53_term]
  funext i
  obtain ⟨a, q, rfl⟩ : ∃ (a : Fin 1984) (q : Fin 144), i = ix2 a q := ⟨i 0, i 1, by pointwise⟩
  refine (rows_of_atoms _ a q).trans ?_
  have h := hI.out (⟨3 * a.val + q.val / 3 % 3, by omega⟩ : Fin 5952) (by show 3 * a.val + q.val / 3 % 3 < 5952; omega) (⟨q.val / 9, by omega⟩ : Fin 16)
  show plane _ _ _ = ((Spec.atom _ _ _ _ _ _ _ : ℝ) : EReal)
  unfold Spec.atom
  generalize he : (⟨q.val % 3, by omega⟩ : Fin 3) = k
  have hk : q.val % 3 = k.val := by rw [← he]
  show _ = ((pick _ (q.val % 3) : ℝ) : EReal)
  rw [hk]
  match k with
  | ⟨0, _⟩ => exact h.x
  | ⟨1, _⟩ => exact h.y
  | ⟨2, _⟩ => exact h.z

end Results

/-- The reference ends with its arguments unchanged and no counter raised. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h c main_arg0 rfl).trans (final_arg m c (by decide +kernel) (by decide +kernel) (by decide +kernel)),
      (h c main_arg1 rfl).trans (final_arg m c (by decide +kernel) (by decide +kernel) (by decide +kernel)),
      (h c main_arg2 rfl).trans (final_arg m c (by decide +kernel) (by decide +kernel) (by decide +kernel)),
      (h c main_arg3 rfl).trans (final_arg m c (by decide +kernel) (by decide +kernel) (by decide +kernel))⟩,
    sem_eq_zero_of_no_sems rfl _⟩) (run_fold m ρ)

/-- The reference ends with the angles, the positions and the lengths, its arguments unchanged. -/
theorem run_spec (m : (ℓ : Loc nD τ sig) → Buf (Elt Ideal) ℓ) (ρ : Dev nD → PrngReg)
    (hc : ∀ (c : Dev nD) (j : Fin 17), ((m ((c : Thread nD τ).loc main_arg1) : Vec Ideal S17 .i32) (ix1 j)).toNat ≤ 16384) :
    θ_run (defs (F := Ideal)) (onTc (τ := τ) (main (F := Ideal))) ⟨m, fun _ => 0, ρ⟩ (fun r => ∀ c : Dev nD,
      r.2.mem ((c.tc : Thread nD τ).loc main_v31) = Spec.emissions (m ((c : Thread nD τ).loc main_arg0)) (m ((c : Thread nD τ).loc main_arg1))
        (m ((c : Thread nD τ).loc main_arg2)) (m ((c : Thread nD τ).loc main_arg3))
      ∧ r.2.mem ((c.tc : Thread nD τ).loc main_v53) = Spec.backbone (m ((c : Thread nD τ).loc main_arg0)) (m ((c : Thread nD τ).loc main_arg1))
        (m ((c : Thread nD τ).loc main_arg2)) (m ((c : Thread nD τ).loc main_arg3))
      ∧ r.2.mem ((c.tc : Thread nD τ).loc main_v32) = Spec.lengths (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h.1 c main_v31 rfl).trans (final_v31 m c (hc c)), (h.1 c main_v53 rfl).trans (final_v53 m c (hc c)),
      (h.1 c main_v32 rfl).trans (final_v32 m c), h.2.1 c⟩) (θ_run_and (run_fold m ρ) (frame m ρ))

end Cert.RefStep

end
-- ==== Proof.Claims.lean ====
/- The claims: the frames, and that the kernel's three results are the reference's. -/
module

public import proofs.«01_k».proof.Defs
public import proofs.«01_k».proof.Proof.KernelArr
public import proofs.«01_k».proof.Proof.RefFinal
public import proofs.«01_k».proof.Proof.Gen.Kernel.Frame
public import proofs.«01_k».proof.Proof.Gen.KernelIdeal.Frame
public import proofs.«01_k».proof.Proof.Gen.Pre_offsets
public import Idealize.ShloMosaic.Lib.ReduceAll

@[expose] public section

noncomputable section

namespace Cert.Proof

open Idealize.ShloMosaic Idealize.ShloMosaic.TcCoe

/-- Two bits whose conjunction is one are one. -/
theorem andi_one {a b : BitVec 1} (h : IntOp.andi a b = 1#1) : a = 1#1 ∧ b = 1#1 := by
  revert a b
  decide

/-- Where both comparisons hold the offset, read as a number, is at most the number of tokens. -/
theorem offset_le (x : BitVec 32) (h0 : IntOp.cmpi .sge x 0#32 = 1#1) (h1 : IntOp.cmpi .sle x 16384#32 = 1#1) : x.toNat ≤ 16384 := by
  have e0 : (0#32 : BitVec 32).sle x := by
    revert h0
    unfold IntOp.cmpi
    cases hb : (0#32 : BitVec 32).sle x <;> simp [hb]
  have e1 : x.sle 16384#32 := by
    revert h1
    unfold IntOp.cmpi
    cases hb : x.sle 16384#32 <;> simp [hb]
  rw [BitVec.sle_iff_toInt_le] at e0 e1
  have z0 : (0#32 : BitVec 32).toInt = 0 := by decide
  have z1 : (16384#32 : BitVec 32).toInt = 16384 := by decide
  rw [z0] at e0
  rw [z1] at e1
  rw [BitVec.toInt_eq_toNat_cond] at e0 e1
  split at e0 <;> omega

/-- A scalar has one entry. -/
instance : Subsingleton Cert.Pre_offsets.S_.Idx := ⟨fun _ _ => funext fun a => a.elim0⟩

/-- What the precondition says of the offsets. -/
theorem offsets_le (x0 : IVec Cert.Pre_offsets.S16384 32) (cu : IVec Cert.Pre_offsets.S17 32)
    (x2 : FVec Ideal Cert.Pre_offsets.S21x3 .f32) (x3 : FVec Ideal Cert.Pre_offsets.S3 .f32)
    (h : Cert.Pre_offsets.fn (F := Ideal) x0 cu x2 x3 = fun _ => 1#1) (j : Fin 17) : (cu (ix1 j)).toNat ≤ 16384 := by
  have hj := congrFun h (Shape.Idx.first Cert.Pre_offsets.Facts.h_S_)
  unfold Cert.Pre_offsets.fn at hj
  obtain ⟨h0, h1⟩ := andi_one hj
  have e0 := Host.reduce_andi_all _ _ _ _ _ h0 (ix1 j)
  have e1 := Host.reduce_andi_all _ _ _ _ _ h1 (ix1 j)
  exact offset_le _ e0 e1

/-- The kernel's three results are the reference's. -/
theorem algebraic : Cert.algebraic_KernelIdeal_ReferenceIdeal_pre_offsets := by
  intro m g m' g' hpre hagree
  have hc : ∀ (c : Dev Cert.KernelIdeal.nD) (j : Fin 17),
      ((m ((c : Thread Cert.KernelIdeal.nD Cert.KernelIdeal.τ).loc Cert.KernelIdeal.main_arg1) : IVec Cert.KernelIdeal.S17 32) (ix1 j)).toNat ≤ 16384 :=
    fun c j => offsets_le _ _ _ _ (hpre c) j
  have hc' : ∀ (c : Dev Cert.KernelIdeal.nD) (j : Fin 17),
      ((m' ((c : Thread Cert.ReferenceIdeal.nD Cert.ReferenceIdeal.τ).loc Cert.ReferenceIdeal.main_arg1) : IVec Cert.ReferenceIdeal.S17 32) (ix1 j)).toNat ≤ 16384 := by
    intro c j
    rw [(hagree c).2.1]
    exact hc c j
  refine ⟨fun c => (Cert.KernelIdeal.Gen.dats m 0 c).arrAt 4 Cert.KernelIdeal.cfg0.N,
    fun c => (Cert.KernelIdeal.Gen.dats m 0 c).arrAt 5 Cert.KernelIdeal.cfg0.N,
    fun c => (Cert.KernelIdeal.Gen.dats m 0 c).arrAt 6 Cert.KernelIdeal.cfg0.N,
    Cert.KernelIdeal.Value.run_blocks m g, (θ_run _ _ _).mono (fun r h c => ?_) (Cert.RefStep.run_spec m' g' hc')⟩
  obtain ⟨a0, a1, a2, a3⟩ := hagree c
  obtain ⟨h1, h2, h3, h4⟩ := h c
  rw [a0, a1, a2, a3] at h1 h2
  rw [a1] at h3
  exact ⟨h1.trans (Cert.Model.arr4 m c (hc c)).symm, h2.trans (Cert.Model.arr5 m c (hc c)).symm, h3.trans (Cert.Model.arr6 m c).symm, h4⟩

end Cert.Proof

end
-- ==== Proof.lean ====
/- The proof of the claims: the launch's generated frames, the reference's frame (Proof/RefFinal.lean), and the equality of the
   three results (Proof/Claims.lean). -/
module

public import proofs.«01_k».proof.Defs
public import proofs.«01_k».proof.Proof.Claims

@[expose] public section

noncomputable section

namespace Cert.Proof

/-- Everything claimed: each program runs, leaves its arguments and raises no counter; the kernel read over the extended reals
    is the kernel; and its three results are the reference's. -/
theorem claim : Cert.Claim :=
  ⟨Cert.Kernel.Gen.facts, Cert.KernelIdeal.Gen.facts, Cert.ReferenceIdeal.Gen.facts, Cert.Pre_offsets.Gen.facts,
    fun m ρ _ => Cert.Kernel.Gen.frame m ρ, fun m ρ _ => Cert.KernelIdeal.Gen.frame m ρ, fun m ρ _ => Cert.KernelIdeal.Gen.frame m ρ,
    fun m ρ _ => Cert.RefStep.frame m ρ, fun m ρ _ => Cert.RefStep.frame m ρ, trivial, algebraic⟩

end Cert.Proof

end
